-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2048x1024 : Shape := ⟨2, ![2048, 1024]⟩
abbrev S8x1024x128 : Shape := ⟨3, ![8, 1024, 128]⟩
abbrev S_ : Shape := ⟨0, ![]⟩
abbrev S8 : Shape := ⟨1, ![8]⟩
abbrev S32 : Shape := ⟨1, ![32]⟩
abbrev S2048x128 : Shape := ⟨2, ![2048, 128]⟩
abbrev S1024x128 : Shape := ⟨2, ![1024, 128]⟩
abbrev S1x1024x128 : Shape := ⟨3, ![1, 1024, 128]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S8x1024x128, .f32⟩
  | .local _ .vmem, ⟨4, _⟩ => ⟨S8x1024x128, .f32⟩
  | .local _ .vmem, ⟨5, _⟩ => ⟨S8x1024x128, .f32⟩
  | _, _ => ⟨S2048x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 155 → Bool
  | ⟨i, _⟩ => dmaSemScopedAt i

abbrev sig : RefSig :=
  (ofTc nBuf bufTy 1 155 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_27 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c1024_i32 : BitVec 32 := 1024#32
  let v45 : BitVec 32 := Scalar.muli v44 c1024_i32
  ![0, v45.toNat]
def k0_off2 (d0 : Dev nD) : Fin 2 → Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_28 : BitVec 32 := 1024#32
  let v47 : BitVec 32 := Scalar.muli v2 c1024_i32_28
  ![0, v47.toNat]
def k0_dev1 (d0 : Dev nD) : Nat :=
  let c0_i32_32 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_31 : BitVec 32 := 8#32
  let v50 : BitVec 32 := Scalar.muli v44 c8_i32_31
  let v51 : BitVec 32 := Scalar.addi c0_i32_32 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v52 : BitVec 32 := Scalar.muli v5 c4_i32_33
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v54 : BitVec 32 := Scalar.muli v8 c1_i32_34
  let v55 : BitVec 32 := Scalar.addi v53 v54
  v55.toNat
def k0_dev2 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v56 : BitVec 32 := Scalar.muli v2 c8_i32_36
  let v57 : BitVec 32 := Scalar.addi c0_i32_37 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_38 : BitVec 32 := 4#32
  let v58 : BitVec 32 := Scalar.muli v24 c4_i32_38
  let v59 : BitVec 32 := Scalar.addi v57 v58
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_39 : BitVec 32 := 1#32
  let v60 : BitVec 32 := Scalar.muli v27 c1_i32_39
  let v61 : BitVec 32 := Scalar.addi v59 v60
  v61.toNat
def k0_dev3 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v62 : BitVec 32 := Scalar.muli v2 c8_i32_41
  let v63 : BitVec 32 := Scalar.addi c0_i32_42 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_43 : BitVec 32 := 4#32
  let v64 : BitVec 32 := Scalar.muli v40 c4_i32_43
  let v65 : BitVec 32 := Scalar.addi v63 v64
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_44 : BitVec 32 := 1#32
  let v66 : BitVec 32 := Scalar.muli v43 c1_i32_44
  let v67 : BitVec 32 := Scalar.addi v65 v66
  v67.toNat
def k0_off3 (d0 : Dev nD) : Fin 2 → Nat :=
  let c0_i32_46 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32_45 : BitVec 32 := 1024#32
  let v68 : BitVec 32 := Scalar.muli v11 c1024_i32_45
  ![0, v68.toNat]
def k0_dev4 (d0 : Dev nD) : Nat :=
  let c0_i32_61 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_60 : BitVec 32 := 8#32
  let v79 : BitVec 32 := Scalar.muli v44 c8_i32_60
  let v80 : BitVec 32 := Scalar.addi c0_i32_61 v79
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v81 : BitVec 32 := Scalar.muli v5 c4_i32_62
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v83 : BitVec 32 := Scalar.muli v8 c1_i32_63
  let v84 : BitVec 32 := Scalar.addi v82 v83
  v84.toNat
def k0_dev5 (d0 : Dev nD) : Nat :=
  let c0_i32_87 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_86 : BitVec 32 := 8#32
  let v105 : BitVec 32 := Scalar.muli v44 c8_i32_86
  let v106 : BitVec 32 := Scalar.addi c0_i32_87 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v107 : BitVec 32 := Scalar.muli v5 c4_i32_88
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v109 : BitVec 32 := Scalar.muli v8 c1_i32_89
  let v110 : BitVec 32 := Scalar.addi v108 v109
  v110.toNat
def k0_off4 (d0 : Dev nD) (c0_i32_133 : BitVec 32) : Fin 2 → Nat :=
  let c0_i32_136 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32_132 : BitVec 32 := 1024#32
  let v151 : BitVec 32 := Scalar.muli v11 c1024_i32_132
  let v152 : BitVec 32 := Scalar.addi v151 c0_i32_133
  ![0, v152.toNat]
def k0_dev6 (d0 : Dev nD) : Nat :=
  let c0_i32_145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_144 : BitVec 32 := 8#32
  let v160 : BitVec 32 := Scalar.muli v2 c8_i32_144
  let v161 : BitVec 32 := Scalar.addi c0_i32_145 v160
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_146 : BitVec 32 := 4#32
  let v162 : BitVec 32 := Scalar.muli v24 c4_i32_146
  let v163 : BitVec 32 := Scalar.addi v161 v162
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_147 : BitVec 32 := 1#32
  let v164 : BitVec 32 := Scalar.muli v27 c1_i32_147
  let v165 : BitVec 32 := Scalar.addi v163 v164
  v165.toNat
def k0_dev7 (d0 : Dev nD) : Nat :=
  let c0_i32_157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_156 : BitVec 32 := 8#32
  let v175 : BitVec 32 := Scalar.muli v2 c8_i32_156
  let v176 : BitVec 32 := Scalar.addi c0_i32_157 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_158 : BitVec 32 := 4#32
  let v177 : BitVec 32 := Scalar.muli v40 c4_i32_158
  let v178 : BitVec 32 := Scalar.addi v176 v177
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_159 : BitVec 32 := 1#32
  let v179 : BitVec 32 := Scalar.muli v43 c1_i32_159
  let v180 : BitVec 32 := Scalar.addi v178 v179
  v180.toNat
def k0_dev8 (d0 : Dev nD) : Nat :=
  let c0_i32_174 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_173 : BitVec 32 := 8#32
  let v194 : BitVec 32 := Scalar.muli v44 c8_i32_173
  let v195 : BitVec 32 := Scalar.addi c0_i32_174 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v196 : BitVec 32 := Scalar.muli v5 c4_i32_175
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v198 : BitVec 32 := Scalar.muli v8 c1_i32_176
  let v199 : BitVec 32 := Scalar.addi v197 v198
  v199.toNat
def k0_dev9 (d0 : Dev nD) : Nat :=
  let c0_i32_231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_230 : BitVec 32 := 8#32
  let v249 : BitVec 32 := Scalar.muli v2 c8_i32_230
  let v250 : BitVec 32 := Scalar.addi c0_i32_231 v249
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_232 : BitVec 32 := 4#32
  let v251 : BitVec 32 := Scalar.muli v24 c4_i32_232
  let v252 : BitVec 32 := Scalar.addi v250 v251
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_233 : BitVec 32 := 1#32
  let v253 : BitVec 32 := Scalar.muli v27 c1_i32_233
  let v254 : BitVec 32 := Scalar.addi v252 v253
  v254.toNat
def k0_dev10 (d0 : Dev nD) : Nat :=
  let c0_i32_243 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_242 : BitVec 32 := 8#32
  let v264 : BitVec 32 := Scalar.muli v2 c8_i32_242
  let v265 : BitVec 32 := Scalar.addi c0_i32_243 v264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_244 : BitVec 32 := 4#32
  let v266 : BitVec 32 := Scalar.muli v40 c4_i32_244
  let v267 : BitVec 32 := Scalar.addi v265 v266
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_245 : BitVec 32 := 1#32
  let v268 : BitVec 32 := Scalar.muli v43 c1_i32_245
  let v269 : BitVec 32 := Scalar.addi v267 v268
  v269.toNat
def k0_dev11 (d0 : Dev nD) : Nat :=
  let c0_i32_260 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_259 : BitVec 32 := 8#32
  let v283 : BitVec 32 := Scalar.muli v44 c8_i32_259
  let v284 : BitVec 32 := Scalar.addi c0_i32_260 v283
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v285 : BitVec 32 := Scalar.muli v5 c4_i32_261
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v287 : BitVec 32 := Scalar.muli v8 c1_i32_262
  let v288 : BitVec 32 := Scalar.addi v286 v287
  v288.toNat
def k0_dev12 (d0 : Dev nD) : Nat :=
  let c0_i32_317 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_316 : BitVec 32 := 8#32
  let v338 : BitVec 32 := Scalar.muli v2 c8_i32_316
  let v339 : BitVec 32 := Scalar.addi c0_i32_317 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_318 : BitVec 32 := 4#32
  let v340 : BitVec 32 := Scalar.muli v24 c4_i32_318
  let v341 : BitVec 32 := Scalar.addi v339 v340
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_319 : BitVec 32 := 1#32
  let v342 : BitVec 32 := Scalar.muli v27 c1_i32_319
  let v343 : BitVec 32 := Scalar.addi v341 v342
  v343.toNat
def k0_dev13 (d0 : Dev nD) : Nat :=
  let c0_i32_329 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_328 : BitVec 32 := 8#32
  let v353 : BitVec 32 := Scalar.muli v2 c8_i32_328
  let v354 : BitVec 32 := Scalar.addi c0_i32_329 v353
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_330 : BitVec 32 := 4#32
  let v355 : BitVec 32 := Scalar.muli v40 c4_i32_330
  let v356 : BitVec 32 := Scalar.addi v354 v355
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_331 : BitVec 32 := 1#32
  let v357 : BitVec 32 := Scalar.muli v43 c1_i32_331
  let v358 : BitVec 32 := Scalar.addi v356 v357
  v358.toNat
def k0_dev14 (d0 : Dev nD) : Nat :=
  let c0_i32_346 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_345 : BitVec 32 := 8#32
  let v372 : BitVec 32 := Scalar.muli v44 c8_i32_345
  let v373 : BitVec 32 := Scalar.addi c0_i32_346 v372
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v374 : BitVec 32 := Scalar.muli v5 c4_i32_347
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v376 : BitVec 32 := Scalar.muli v8 c1_i32_348
  let v377 : BitVec 32 := Scalar.addi v375 v376
  v377.toNat
def k0_dev15 (d0 : Dev nD) : Nat :=
  let c0_i32_403 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_402 : BitVec 32 := 8#32
  let v427 : BitVec 32 := Scalar.muli v2 c8_i32_402
  let v428 : BitVec 32 := Scalar.addi c0_i32_403 v427
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_404 : BitVec 32 := 4#32
  let v429 : BitVec 32 := Scalar.muli v24 c4_i32_404
  let v430 : BitVec 32 := Scalar.addi v428 v429
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_405 : BitVec 32 := 1#32
  let v431 : BitVec 32 := Scalar.muli v27 c1_i32_405
  let v432 : BitVec 32 := Scalar.addi v430 v431
  v432.toNat
def k0_dev16 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v442 : BitVec 32 := Scalar.muli v2 c8_i32_414
  let v443 : BitVec 32 := Scalar.addi c0_i32_415 v442
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_416 : BitVec 32 := 4#32
  let v444 : BitVec 32 := Scalar.muli v40 c4_i32_416
  let v445 : BitVec 32 := Scalar.addi v443 v444
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_417 : BitVec 32 := 1#32
  let v446 : BitVec 32 := Scalar.muli v43 c1_i32_417
  let v447 : BitVec 32 := Scalar.addi v445 v446
  v447.toNat
def k0_dev17 (d0 : Dev nD) : Nat :=
  let c0_i32_431 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_430 : BitVec 32 := 8#32
  let v461 : BitVec 32 := Scalar.muli v44 c8_i32_430
  let v462 : BitVec 32 := Scalar.addi c0_i32_431 v461
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_432 : BitVec 32 := 4#32
  let v463 : BitVec 32 := Scalar.muli v5 c4_i32_432
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v465 : BitVec 32 := Scalar.muli v8 c1_i32_433
  let v466 : BitVec 32 := Scalar.addi v464 v465
  v466.toNat
def k0_dev18 (d0 : Dev nD) : Nat :=
  let c0_i32_488 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_487 : BitVec 32 := 8#32
  let v516 : BitVec 32 := Scalar.muli v2 c8_i32_487
  let v517 : BitVec 32 := Scalar.addi c0_i32_488 v516
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_489 : BitVec 32 := 4#32
  let v518 : BitVec 32 := Scalar.muli v24 c4_i32_489
  let v519 : BitVec 32 := Scalar.addi v517 v518
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_490 : BitVec 32 := 1#32
  let v520 : BitVec 32 := Scalar.muli v27 c1_i32_490
  let v521 : BitVec 32 := Scalar.addi v519 v520
  v521.toNat
def k0_dev19 (d0 : Dev nD) : Nat :=
  let c0_i32_500 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_499 : BitVec 32 := 8#32
  let v531 : BitVec 32 := Scalar.muli v2 c8_i32_499
  let v532 : BitVec 32 := Scalar.addi c0_i32_500 v531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_501 : BitVec 32 := 4#32
  let v533 : BitVec 32 := Scalar.muli v40 c4_i32_501
  let v534 : BitVec 32 := Scalar.addi v532 v533
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_502 : BitVec 32 := 1#32
  let v535 : BitVec 32 := Scalar.muli v43 c1_i32_502
  let v536 : BitVec 32 := Scalar.addi v534 v535
  v536.toNat
def k0_dev20 (d0 : Dev nD) : Nat :=
  let c0_i32_516 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_515 : BitVec 32 := 8#32
  let v550 : BitVec 32 := Scalar.muli v44 c8_i32_515
  let v551 : BitVec 32 := Scalar.addi c0_i32_516 v550
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v552 : BitVec 32 := Scalar.muli v5 c4_i32_517
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_518 : BitVec 32 := 1#32
  let v554 : BitVec 32 := Scalar.muli v8 c1_i32_518
  let v555 : BitVec 32 := Scalar.addi v553 v554
  v555.toNat
def k0_dev21 (d0 : Dev nD) : Nat :=
  let c0_i32_573 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_572 : BitVec 32 := 8#32
  let v605 : BitVec 32 := Scalar.muli v2 c8_i32_572
  let v606 : BitVec 32 := Scalar.addi c0_i32_573 v605
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_574 : BitVec 32 := 4#32
  let v607 : BitVec 32 := Scalar.muli v24 c4_i32_574
  let v608 : BitVec 32 := Scalar.addi v606 v607
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_575 : BitVec 32 := 1#32
  let v609 : BitVec 32 := Scalar.muli v27 c1_i32_575
  let v610 : BitVec 32 := Scalar.addi v608 v609
  v610.toNat
def k0_dev22 (d0 : Dev nD) : Nat :=
  let c0_i32_585 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_584 : BitVec 32 := 8#32
  let v620 : BitVec 32 := Scalar.muli v2 c8_i32_584
  let v621 : BitVec 32 := Scalar.addi c0_i32_585 v620
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_586 : BitVec 32 := 4#32
  let v622 : BitVec 32 := Scalar.muli v40 c4_i32_586
  let v623 : BitVec 32 := Scalar.addi v621 v622
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_587 : BitVec 32 := 1#32
  let v624 : BitVec 32 := Scalar.muli v43 c1_i32_587
  let v625 : BitVec 32 := Scalar.addi v623 v624
  v625.toNat
def k0_dev23 (d0 : Dev nD) : Nat :=
  let c0_i32_602 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_601 : BitVec 32 := 8#32
  let v639 : BitVec 32 := Scalar.muli v44 c8_i32_601
  let v640 : BitVec 32 := Scalar.addi c0_i32_602 v639
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_603 : BitVec 32 := 4#32
  let v641 : BitVec 32 := Scalar.muli v5 c4_i32_603
  let v642 : BitVec 32 := Scalar.addi v640 v641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_604 : BitVec 32 := 1#32
  let v643 : BitVec 32 := Scalar.muli v8 c1_i32_604
  let v644 : BitVec 32 := Scalar.addi v642 v643
  v644.toNat
def k0_dev24 (d0 : Dev nD) : Nat :=
  let c0_i32_659 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_658 : BitVec 32 := 8#32
  let v694 : BitVec 32 := Scalar.muli v2 c8_i32_658
  let v695 : BitVec 32 := Scalar.addi c0_i32_659 v694
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_660 : BitVec 32 := 4#32
  let v696 : BitVec 32 := Scalar.muli v24 c4_i32_660
  let v697 : BitVec 32 := Scalar.addi v695 v696
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_661 : BitVec 32 := 1#32
  let v698 : BitVec 32 := Scalar.muli v27 c1_i32_661
  let v699 : BitVec 32 := Scalar.addi v697 v698
  v699.toNat
def k0_dev25 (d0 : Dev nD) : Nat :=
  let c0_i32_671 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_670 : BitVec 32 := 8#32
  let v709 : BitVec 32 := Scalar.muli v2 c8_i32_670
  let v710 : BitVec 32 := Scalar.addi c0_i32_671 v709
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_672 : BitVec 32 := 4#32
  let v711 : BitVec 32 := Scalar.muli v40 c4_i32_672
  let v712 : BitVec 32 := Scalar.addi v710 v711
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_673 : BitVec 32 := 1#32
  let v713 : BitVec 32 := Scalar.muli v43 c1_i32_673
  let v714 : BitVec 32 := Scalar.addi v712 v713
  v714.toNat
def k0_dev26 (d0 : Dev nD) : Nat :=
  let c0_i32_719 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_718 : BitVec 32 := 8#32
  let v757 : BitVec 32 := Scalar.muli v2 c8_i32_718
  let v758 : BitVec 32 := Scalar.addi c0_i32_719 v757
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_720 : BitVec 32 := 4#32
  let v759 : BitVec 32 := Scalar.muli v24 c4_i32_720
  let v760 : BitVec 32 := Scalar.addi v758 v759
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_721 : BitVec 32 := 1#32
  let v761 : BitVec 32 := Scalar.muli v27 c1_i32_721
  let v762 : BitVec 32 := Scalar.addi v760 v761
  v762.toNat
def k0_dev27 (d0 : Dev nD) : Nat :=
  let c0_i32_731 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_730 : BitVec 32 := 8#32
  let v772 : BitVec 32 := Scalar.muli v2 c8_i32_730
  let v773 : BitVec 32 := Scalar.addi c0_i32_731 v772
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_732 : BitVec 32 := 4#32
  let v774 : BitVec 32 := Scalar.muli v40 c4_i32_732
  let v775 : BitVec 32 := Scalar.addi v773 v774
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_733 : BitVec 32 := 1#32
  let v776 : BitVec 32 := Scalar.muli v43 c1_i32_733
  let v777 : BitVec 32 := Scalar.addi v775 v776
  v777.toNat
def k0_off5 (d0 : Dev nD) (c1_i32_737 : BitVec 32) (c0_i32_786 : BitVec 32) : Fin 2 → Nat :=
  let c0_i32_793 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v785 : BitVec 32 := Scalar.subi v11 c1_i32_737
  let c8_i32_738 : BitVec 32 := 8#32
  let c0_i32_739 : BitVec 32 := 0#32
  let v786 : BitVec 1 := Scalar.cmpi .eq c8_i32_738 c0_i32_739
  let c1_i32_740 : BitVec 32 := 1#32
  let v787 : BitVec 32 := Scalar.select v786 c1_i32_740 c8_i32_738
  let v788 : BitVec 32 := Scalar.remsi v785 v787
  let c0_i32_742 : BitVec 32 := 0#32
  let v790 : BitVec 1 := Scalar.cmpi .slt v788 c0_i32_742
  let c0_i32_743 : BitVec 32 := 0#32
  let v791 : BitVec 1 := Scalar.cmpi .slt v787 c0_i32_743
  let v792 : BitVec 1 := Scalar.xori v790 v791
  let c0_i32_741 : BitVec 32 := 0#32
  let v789 : BitVec 1 := Scalar.cmpi .ne v788 c0_i32_741
  let v793 : BitVec 1 := Scalar.andi v792 v789
  let v794 : BitVec 32 := Scalar.addi v788 v787
  let v795 : BitVec 32 := Scalar.select v793 v794 v788
  let c1024_i32_785 : BitVec 32 := 1024#32
  let v839 : BitVec 32 := Scalar.muli v795 c1024_i32_785
  let v840 : BitVec 32 := Scalar.addi v839 c0_i32_786
  ![0, v840.toNat]
def k0_off5_at (r : Fin 20) : BitVec 32 × BitVec 32 :=
  if r.val < 10 then
    if r.val < 5 then
      if r.val < 2 then
        if r.val < 1 then
          (1#32, 0#32)
        else
          (1#32, 128#32)
      else
        if r.val < 3 then
          (1#32, 256#32)
        else
          if r.val < 4 then
            (1#32, 384#32)
          else
            (1#32, 512#32)
    else
      if r.val < 7 then
        if r.val < 6 then
          (1#32, 640#32)
        else
          (1#32, 768#32)
      else
        if r.val < 8 then
          (1#32, 896#32)
        else
          if r.val < 9 then
            (2#32, 0#32)
          else
            (2#32, 128#32)
  else
    if r.val < 15 then
      if r.val < 12 then
        if r.val < 11 then
          (2#32, 256#32)
        else
          (2#32, 384#32)
      else
        if r.val < 13 then
          (2#32, 512#32)
        else
          if r.val < 14 then
            (2#32, 640#32)
          else
            (2#32, 768#32)
    else
      if r.val < 17 then
        if r.val < 16 then
          (2#32, 896#32)
        else
          (3#32, 0#32)
      else
        if r.val < 18 then
          (3#32, 128#32)
        else
          if r.val < 19 then
            (3#32, 256#32)
          else
            (3#32, 384#32)
def k0_dev28 (d0 : Dev nD) : Nat :=
  let c0_i32_790 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_789 : BitVec 32 := 8#32
  let v841 : BitVec 32 := Scalar.muli v2 c8_i32_789
  let v842 : BitVec 32 := Scalar.addi c0_i32_790 v841
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_791 : BitVec 32 := 4#32
  let v843 : BitVec 32 := Scalar.muli v24 c4_i32_791
  let v844 : BitVec 32 := Scalar.addi v842 v843
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_792 : BitVec 32 := 1#32
  let v845 : BitVec 32 := Scalar.muli v27 c1_i32_792
  let v846 : BitVec 32 := Scalar.addi v844 v845
  v846.toNat
def k0_off6 (d0 : Dev nD) (c1_i32_744 : BitVec 32) (c0_i32_796 : BitVec 32) : Fin 2 → Nat :=
  let c0_i32_803 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v796 : BitVec 32 := Scalar.addi v11 c1_i32_744
  let c8_i32_745 : BitVec 32 := 8#32
  let c0_i32_746 : BitVec 32 := 0#32
  let v797 : BitVec 1 := Scalar.cmpi .eq c8_i32_745 c0_i32_746
  let c1_i32_747 : BitVec 32 := 1#32
  let v798 : BitVec 32 := Scalar.select v797 c1_i32_747 c8_i32_745
  let v799 : BitVec 32 := Scalar.remsi v796 v798
  let c0_i32_749 : BitVec 32 := 0#32
  let v801 : BitVec 1 := Scalar.cmpi .slt v799 c0_i32_749
  let c0_i32_750 : BitVec 32 := 0#32
  let v802 : BitVec 1 := Scalar.cmpi .slt v798 c0_i32_750
  let v803 : BitVec 1 := Scalar.xori v801 v802
  let c0_i32_748 : BitVec 32 := 0#32
  let v800 : BitVec 1 := Scalar.cmpi .ne v799 c0_i32_748
  let v804 : BitVec 1 := Scalar.andi v803 v800
  let v805 : BitVec 32 := Scalar.addi v799 v798
  let v806 : BitVec 32 := Scalar.select v804 v805 v799
  let c1024_i32_795 : BitVec 32 := 1024#32
  let v853 : BitVec 32 := Scalar.muli v806 c1024_i32_795
  let v854 : BitVec 32 := Scalar.addi v853 c0_i32_796
  ![0, v854.toNat]
def k0_off6_at (r : Fin 20) : BitVec 32 × BitVec 32 :=
  if r.val < 10 then
    if r.val < 5 then
      if r.val < 2 then
        if r.val < 1 then
          (1#32, 0#32)
        else
          (1#32, 128#32)
      else
        if r.val < 3 then
          (1#32, 256#32)
        else
          if r.val < 4 then
            (1#32, 384#32)
          else
            (1#32, 512#32)
    else
      if r.val < 7 then
        if r.val < 6 then
          (1#32, 640#32)
        else
          (1#32, 768#32)
      else
        if r.val < 8 then
          (1#32, 896#32)
        else
          if r.val < 9 then
            (2#32, 0#32)
          else
            (2#32, 128#32)
  else
    if r.val < 15 then
      if r.val < 12 then
        if r.val < 11 then
          (2#32, 256#32)
        else
          (2#32, 384#32)
      else
        if r.val < 13 then
          (2#32, 512#32)
        else
          if r.val < 14 then
            (2#32, 640#32)
          else
            (2#32, 768#32)
    else
      if r.val < 17 then
        if r.val < 16 then
          (2#32, 896#32)
        else
          (3#32, 512#32)
      else
        if r.val < 18 then
          (3#32, 640#32)
        else
          if r.val < 19 then
            (3#32, 768#32)
          else
            (3#32, 896#32)
def k0_dev29 (d0 : Dev nD) : Nat :=
  let c0_i32_800 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_799 : BitVec 32 := 8#32
  let v855 : BitVec 32 := Scalar.muli v2 c8_i32_799
  let v856 : BitVec 32 := Scalar.addi c0_i32_800 v855
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_801 : BitVec 32 := 4#32
  let v857 : BitVec 32 := Scalar.muli v40 c4_i32_801
  let v858 : BitVec 32 := Scalar.addi v856 v857
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_802 : BitVec 32 := 1#32
  let v859 : BitVec 32 := Scalar.muli v43 c1_i32_802
  let v860 : BitVec 32 := Scalar.addi v858 v859
  v860.toNat
def k0_dev30 (d0 : Dev nD) : Nat :=
  let c0_i32_843 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_842 : BitVec 32 := 8#32
  let v901 : BitVec 32 := Scalar.muli v2 c8_i32_842
  let v902 : BitVec 32 := Scalar.addi c0_i32_843 v901
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_844 : BitVec 32 := 4#32
  let v903 : BitVec 32 := Scalar.muli v24 c4_i32_844
  let v904 : BitVec 32 := Scalar.addi v902 v903
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_845 : BitVec 32 := 1#32
  let v905 : BitVec 32 := Scalar.muli v27 c1_i32_845
  let v906 : BitVec 32 := Scalar.addi v904 v905
  v906.toNat
def k0_dev31 (d0 : Dev nD) : Nat :=
  let c0_i32_853 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_852 : BitVec 32 := 8#32
  let v915 : BitVec 32 := Scalar.muli v2 c8_i32_852
  let v916 : BitVec 32 := Scalar.addi c0_i32_853 v915
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_854 : BitVec 32 := 4#32
  let v917 : BitVec 32 := Scalar.muli v40 c4_i32_854
  let v918 : BitVec 32 := Scalar.addi v916 v917
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_855 : BitVec 32 := 1#32
  let v919 : BitVec 32 := Scalar.muli v43 c1_i32_855
  let v920 : BitVec 32 := Scalar.addi v918 v919
  v920.toNat
def k0_dev32 (d0 : Dev nD) : Nat :=
  let c0_i32_896 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_895 : BitVec 32 := 8#32
  let v961 : BitVec 32 := Scalar.muli v2 c8_i32_895
  let v962 : BitVec 32 := Scalar.addi c0_i32_896 v961
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_897 : BitVec 32 := 4#32
  let v963 : BitVec 32 := Scalar.muli v24 c4_i32_897
  let v964 : BitVec 32 := Scalar.addi v962 v963
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_898 : BitVec 32 := 1#32
  let v965 : BitVec 32 := Scalar.muli v27 c1_i32_898
  let v966 : BitVec 32 := Scalar.addi v964 v965
  v966.toNat
def k0_dev33 (d0 : Dev nD) : Nat :=
  let c0_i32_906 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_905 : BitVec 32 := 8#32
  let v975 : BitVec 32 := Scalar.muli v2 c8_i32_905
  let v976 : BitVec 32 := Scalar.addi c0_i32_906 v975
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_907 : BitVec 32 := 4#32
  let v977 : BitVec 32 := Scalar.muli v40 c4_i32_907
  let v978 : BitVec 32 := Scalar.addi v976 v977
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_908 : BitVec 32 := 1#32
  let v979 : BitVec 32 := Scalar.muli v43 c1_i32_908
  let v980 : BitVec 32 := Scalar.addi v978 v979
  v980.toNat
def k0_dev34 (d0 : Dev nD) : Nat :=
  let c0_i32_949 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_948 : BitVec 32 := 8#32
  let v1021 : BitVec 32 := Scalar.muli v2 c8_i32_948
  let v1022 : BitVec 32 := Scalar.addi c0_i32_949 v1021
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_950 : BitVec 32 := 4#32
  let v1023 : BitVec 32 := Scalar.muli v24 c4_i32_950
  let v1024 : BitVec 32 := Scalar.addi v1022 v1023
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_951 : BitVec 32 := 1#32
  let v1025 : BitVec 32 := Scalar.muli v27 c1_i32_951
  let v1026 : BitVec 32 := Scalar.addi v1024 v1025
  v1026.toNat
def k0_dev35 (d0 : Dev nD) : Nat :=
  let c0_i32_959 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_958 : BitVec 32 := 8#32
  let v1035 : BitVec 32 := Scalar.muli v2 c8_i32_958
  let v1036 : BitVec 32 := Scalar.addi c0_i32_959 v1035
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_960 : BitVec 32 := 4#32
  let v1037 : BitVec 32 := Scalar.muli v40 c4_i32_960
  let v1038 : BitVec 32 := Scalar.addi v1036 v1037
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_961 : BitVec 32 := 1#32
  let v1039 : BitVec 32 := Scalar.muli v43 c1_i32_961
  let v1040 : BitVec 32 := Scalar.addi v1038 v1039
  v1040.toNat
def k0_dev36 (d0 : Dev nD) : Nat :=
  let c0_i32_1002 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1001 : BitVec 32 := 8#32
  let v1081 : BitVec 32 := Scalar.muli v2 c8_i32_1001
  let v1082 : BitVec 32 := Scalar.addi c0_i32_1002 v1081
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1003 : BitVec 32 := 4#32
  let v1083 : BitVec 32 := Scalar.muli v24 c4_i32_1003
  let v1084 : BitVec 32 := Scalar.addi v1082 v1083
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1004 : BitVec 32 := 1#32
  let v1085 : BitVec 32 := Scalar.muli v27 c1_i32_1004
  let v1086 : BitVec 32 := Scalar.addi v1084 v1085
  v1086.toNat
def k0_dev37 (d0 : Dev nD) : Nat :=
  let c0_i32_1012 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1011 : BitVec 32 := 8#32
  let v1095 : BitVec 32 := Scalar.muli v2 c8_i32_1011
  let v1096 : BitVec 32 := Scalar.addi c0_i32_1012 v1095
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1013 : BitVec 32 := 4#32
  let v1097 : BitVec 32 := Scalar.muli v40 c4_i32_1013
  let v1098 : BitVec 32 := Scalar.addi v1096 v1097
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1014 : BitVec 32 := 1#32
  let v1099 : BitVec 32 := Scalar.muli v43 c1_i32_1014
  let v1100 : BitVec 32 := Scalar.addi v1098 v1099
  v1100.toNat
def k0_dev38 (d0 : Dev nD) : Nat :=
  let c0_i32_1055 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1054 : BitVec 32 := 8#32
  let v1141 : BitVec 32 := Scalar.muli v2 c8_i32_1054
  let v1142 : BitVec 32 := Scalar.addi c0_i32_1055 v1141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1056 : BitVec 32 := 4#32
  let v1143 : BitVec 32 := Scalar.muli v24 c4_i32_1056
  let v1144 : BitVec 32 := Scalar.addi v1142 v1143
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1057 : BitVec 32 := 1#32
  let v1145 : BitVec 32 := Scalar.muli v27 c1_i32_1057
  let v1146 : BitVec 32 := Scalar.addi v1144 v1145
  v1146.toNat
def k0_dev39 (d0 : Dev nD) : Nat :=
  let c0_i32_1065 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1064 : BitVec 32 := 8#32
  let v1155 : BitVec 32 := Scalar.muli v2 c8_i32_1064
  let v1156 : BitVec 32 := Scalar.addi c0_i32_1065 v1155
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1066 : BitVec 32 := 4#32
  let v1157 : BitVec 32 := Scalar.muli v40 c4_i32_1066
  let v1158 : BitVec 32 := Scalar.addi v1156 v1157
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1067 : BitVec 32 := 1#32
  let v1159 : BitVec 32 := Scalar.muli v43 c1_i32_1067
  let v1160 : BitVec 32 := Scalar.addi v1158 v1159
  v1160.toNat
def k0_dev40 (d0 : Dev nD) : Nat :=
  let c0_i32_1108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1107 : BitVec 32 := 8#32
  let v1201 : BitVec 32 := Scalar.muli v2 c8_i32_1107
  let v1202 : BitVec 32 := Scalar.addi c0_i32_1108 v1201
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1109 : BitVec 32 := 4#32
  let v1203 : BitVec 32 := Scalar.muli v24 c4_i32_1109
  let v1204 : BitVec 32 := Scalar.addi v1202 v1203
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1110 : BitVec 32 := 1#32
  let v1205 : BitVec 32 := Scalar.muli v27 c1_i32_1110
  let v1206 : BitVec 32 := Scalar.addi v1204 v1205
  v1206.toNat
def k0_dev41 (d0 : Dev nD) : Nat :=
  let c0_i32_1118 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1117 : BitVec 32 := 8#32
  let v1215 : BitVec 32 := Scalar.muli v2 c8_i32_1117
  let v1216 : BitVec 32 := Scalar.addi c0_i32_1118 v1215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1119 : BitVec 32 := 4#32
  let v1217 : BitVec 32 := Scalar.muli v40 c4_i32_1119
  let v1218 : BitVec 32 := Scalar.addi v1216 v1217
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1120 : BitVec 32 := 1#32
  let v1219 : BitVec 32 := Scalar.muli v43 c1_i32_1120
  let v1220 : BitVec 32 := Scalar.addi v1218 v1219
  v1220.toNat
def k0_dev42 (d0 : Dev nD) : Nat :=
  let c0_i32_1161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1160 : BitVec 32 := 8#32
  let v1261 : BitVec 32 := Scalar.muli v2 c8_i32_1160
  let v1262 : BitVec 32 := Scalar.addi c0_i32_1161 v1261
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1162 : BitVec 32 := 4#32
  let v1263 : BitVec 32 := Scalar.muli v24 c4_i32_1162
  let v1264 : BitVec 32 := Scalar.addi v1262 v1263
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1163 : BitVec 32 := 1#32
  let v1265 : BitVec 32 := Scalar.muli v27 c1_i32_1163
  let v1266 : BitVec 32 := Scalar.addi v1264 v1265
  v1266.toNat
def k0_dev43 (d0 : Dev nD) : Nat :=
  let c0_i32_1171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1170 : BitVec 32 := 8#32
  let v1275 : BitVec 32 := Scalar.muli v2 c8_i32_1170
  let v1276 : BitVec 32 := Scalar.addi c0_i32_1171 v1275
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1172 : BitVec 32 := 4#32
  let v1277 : BitVec 32 := Scalar.muli v40 c4_i32_1172
  let v1278 : BitVec 32 := Scalar.addi v1276 v1277
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1173 : BitVec 32 := 1#32
  let v1279 : BitVec 32 := Scalar.muli v43 c1_i32_1173
  let v1280 : BitVec 32 := Scalar.addi v1278 v1279
  v1280.toNat
def k0_dev44 (d0 : Dev nD) : Nat :=
  let c0_i32_1220 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1219 : BitVec 32 := 8#32
  let v1339 : BitVec 32 := Scalar.muli v2 c8_i32_1219
  let v1340 : BitVec 32 := Scalar.addi c0_i32_1220 v1339
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1221 : BitVec 32 := 4#32
  let v1341 : BitVec 32 := Scalar.muli v24 c4_i32_1221
  let v1342 : BitVec 32 := Scalar.addi v1340 v1341
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1222 : BitVec 32 := 1#32
  let v1343 : BitVec 32 := Scalar.muli v27 c1_i32_1222
  let v1344 : BitVec 32 := Scalar.addi v1342 v1343
  v1344.toNat
def k0_dev45 (d0 : Dev nD) : Nat :=
  let c0_i32_1230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1229 : BitVec 32 := 8#32
  let v1353 : BitVec 32 := Scalar.muli v2 c8_i32_1229
  let v1354 : BitVec 32 := Scalar.addi c0_i32_1230 v1353
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1231 : BitVec 32 := 4#32
  let v1355 : BitVec 32 := Scalar.muli v40 c4_i32_1231
  let v1356 : BitVec 32 := Scalar.addi v1354 v1355
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1232 : BitVec 32 := 1#32
  let v1357 : BitVec 32 := Scalar.muli v43 c1_i32_1232
  let v1358 : BitVec 32 := Scalar.addi v1356 v1357
  v1358.toNat
def k0_dev46 (d0 : Dev nD) : Nat :=
  let c0_i32_1265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1264 : BitVec 32 := 8#32
  let v1395 : BitVec 32 := Scalar.muli v2 c8_i32_1264
  let v1396 : BitVec 32 := Scalar.addi c0_i32_1265 v1395
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1266 : BitVec 32 := 4#32
  let v1397 : BitVec 32 := Scalar.muli v24 c4_i32_1266
  let v1398 : BitVec 32 := Scalar.addi v1396 v1397
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1267 : BitVec 32 := 1#32
  let v1399 : BitVec 32 := Scalar.muli v27 c1_i32_1267
  let v1400 : BitVec 32 := Scalar.addi v1398 v1399
  v1400.toNat
def k0_dev47 (d0 : Dev nD) : Nat :=
  let c0_i32_1275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1274 : BitVec 32 := 8#32
  let v1409 : BitVec 32 := Scalar.muli v2 c8_i32_1274
  let v1410 : BitVec 32 := Scalar.addi c0_i32_1275 v1409
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1276 : BitVec 32 := 4#32
  let v1411 : BitVec 32 := Scalar.muli v40 c4_i32_1276
  let v1412 : BitVec 32 := Scalar.addi v1410 v1411
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1277 : BitVec 32 := 1#32
  let v1413 : BitVec 32 := Scalar.muli v43 c1_i32_1277
  let v1414 : BitVec 32 := Scalar.addi v1412 v1413
  v1414.toNat
def k0_dev48 (d0 : Dev nD) : Nat :=
  let c0_i32_1310 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1309 : BitVec 32 := 8#32
  let v1451 : BitVec 32 := Scalar.muli v2 c8_i32_1309
  let v1452 : BitVec 32 := Scalar.addi c0_i32_1310 v1451
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1311 : BitVec 32 := 4#32
  let v1453 : BitVec 32 := Scalar.muli v24 c4_i32_1311
  let v1454 : BitVec 32 := Scalar.addi v1452 v1453
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1312 : BitVec 32 := 1#32
  let v1455 : BitVec 32 := Scalar.muli v27 c1_i32_1312
  let v1456 : BitVec 32 := Scalar.addi v1454 v1455
  v1456.toNat
def k0_dev49 (d0 : Dev nD) : Nat :=
  let c0_i32_1320 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1319 : BitVec 32 := 8#32
  let v1465 : BitVec 32 := Scalar.muli v2 c8_i32_1319
  let v1466 : BitVec 32 := Scalar.addi c0_i32_1320 v1465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1321 : BitVec 32 := 4#32
  let v1467 : BitVec 32 := Scalar.muli v40 c4_i32_1321
  let v1468 : BitVec 32 := Scalar.addi v1466 v1467
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1322 : BitVec 32 := 1#32
  let v1469 : BitVec 32 := Scalar.muli v43 c1_i32_1322
  let v1470 : BitVec 32 := Scalar.addi v1468 v1469
  v1470.toNat
def k0_dev50 (d0 : Dev nD) : Nat :=
  let c0_i32_1355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1354 : BitVec 32 := 8#32
  let v1507 : BitVec 32 := Scalar.muli v2 c8_i32_1354
  let v1508 : BitVec 32 := Scalar.addi c0_i32_1355 v1507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1356 : BitVec 32 := 4#32
  let v1509 : BitVec 32 := Scalar.muli v24 c4_i32_1356
  let v1510 : BitVec 32 := Scalar.addi v1508 v1509
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1357 : BitVec 32 := 1#32
  let v1511 : BitVec 32 := Scalar.muli v27 c1_i32_1357
  let v1512 : BitVec 32 := Scalar.addi v1510 v1511
  v1512.toNat
def k0_dev51 (d0 : Dev nD) : Nat :=
  let c0_i32_1365 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1364 : BitVec 32 := 8#32
  let v1521 : BitVec 32 := Scalar.muli v2 c8_i32_1364
  let v1522 : BitVec 32 := Scalar.addi c0_i32_1365 v1521
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1366 : BitVec 32 := 4#32
  let v1523 : BitVec 32 := Scalar.muli v40 c4_i32_1366
  let v1524 : BitVec 32 := Scalar.addi v1522 v1523
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1367 : BitVec 32 := 1#32
  let v1525 : BitVec 32 := Scalar.muli v43 c1_i32_1367
  let v1526 : BitVec 32 := Scalar.addi v1524 v1525
  v1526.toNat
def k0_dev52 (d0 : Dev nD) : Nat :=
  let c0_i32_1400 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1399 : BitVec 32 := 8#32
  let v1563 : BitVec 32 := Scalar.muli v2 c8_i32_1399
  let v1564 : BitVec 32 := Scalar.addi c0_i32_1400 v1563
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1401 : BitVec 32 := 4#32
  let v1565 : BitVec 32 := Scalar.muli v24 c4_i32_1401
  let v1566 : BitVec 32 := Scalar.addi v1564 v1565
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1402 : BitVec 32 := 1#32
  let v1567 : BitVec 32 := Scalar.muli v27 c1_i32_1402
  let v1568 : BitVec 32 := Scalar.addi v1566 v1567
  v1568.toNat
def k0_dev53 (d0 : Dev nD) : Nat :=
  let c0_i32_1410 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1409 : BitVec 32 := 8#32
  let v1577 : BitVec 32 := Scalar.muli v2 c8_i32_1409
  let v1578 : BitVec 32 := Scalar.addi c0_i32_1410 v1577
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1411 : BitVec 32 := 4#32
  let v1579 : BitVec 32 := Scalar.muli v40 c4_i32_1411
  let v1580 : BitVec 32 := Scalar.addi v1578 v1579
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1412 : BitVec 32 := 1#32
  let v1581 : BitVec 32 := Scalar.muli v43 c1_i32_1412
  let v1582 : BitVec 32 := Scalar.addi v1580 v1581
  v1582.toNat
def k0_dev54 (d0 : Dev nD) : Nat :=
  let c0_i32_1445 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1444 : BitVec 32 := 8#32
  let v1619 : BitVec 32 := Scalar.muli v2 c8_i32_1444
  let v1620 : BitVec 32 := Scalar.addi c0_i32_1445 v1619
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1446 : BitVec 32 := 4#32
  let v1621 : BitVec 32 := Scalar.muli v24 c4_i32_1446
  let v1622 : BitVec 32 := Scalar.addi v1620 v1621
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1447 : BitVec 32 := 1#32
  let v1623 : BitVec 32 := Scalar.muli v27 c1_i32_1447
  let v1624 : BitVec 32 := Scalar.addi v1622 v1623
  v1624.toNat
def k0_dev55 (d0 : Dev nD) : Nat :=
  let c0_i32_1455 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1454 : BitVec 32 := 8#32
  let v1633 : BitVec 32 := Scalar.muli v2 c8_i32_1454
  let v1634 : BitVec 32 := Scalar.addi c0_i32_1455 v1633
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1456 : BitVec 32 := 4#32
  let v1635 : BitVec 32 := Scalar.muli v40 c4_i32_1456
  let v1636 : BitVec 32 := Scalar.addi v1634 v1635
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1457 : BitVec 32 := 1#32
  let v1637 : BitVec 32 := Scalar.muli v43 c1_i32_1457
  let v1638 : BitVec 32 := Scalar.addi v1636 v1637
  v1638.toNat
def k0_dev56 (d0 : Dev nD) : Nat :=
  let c0_i32_1490 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1489 : BitVec 32 := 8#32
  let v1675 : BitVec 32 := Scalar.muli v2 c8_i32_1489
  let v1676 : BitVec 32 := Scalar.addi c0_i32_1490 v1675
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1491 : BitVec 32 := 4#32
  let v1677 : BitVec 32 := Scalar.muli v24 c4_i32_1491
  let v1678 : BitVec 32 := Scalar.addi v1676 v1677
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1492 : BitVec 32 := 1#32
  let v1679 : BitVec 32 := Scalar.muli v27 c1_i32_1492
  let v1680 : BitVec 32 := Scalar.addi v1678 v1679
  v1680.toNat
def k0_dev57 (d0 : Dev nD) : Nat :=
  let c0_i32_1500 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1499 : BitVec 32 := 8#32
  let v1689 : BitVec 32 := Scalar.muli v2 c8_i32_1499
  let v1690 : BitVec 32 := Scalar.addi c0_i32_1500 v1689
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1501 : BitVec 32 := 4#32
  let v1691 : BitVec 32 := Scalar.muli v40 c4_i32_1501
  let v1692 : BitVec 32 := Scalar.addi v1690 v1691
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1502 : BitVec 32 := 1#32
  let v1693 : BitVec 32 := Scalar.muli v43 c1_i32_1502
  let v1694 : BitVec 32 := Scalar.addi v1692 v1693
  v1694.toNat
def k0_dev58 (d0 : Dev nD) : Nat :=
  let c0_i32_1535 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1534 : BitVec 32 := 8#32
  let v1731 : BitVec 32 := Scalar.muli v2 c8_i32_1534
  let v1732 : BitVec 32 := Scalar.addi c0_i32_1535 v1731
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1536 : BitVec 32 := 4#32
  let v1733 : BitVec 32 := Scalar.muli v24 c4_i32_1536
  let v1734 : BitVec 32 := Scalar.addi v1732 v1733
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1537 : BitVec 32 := 1#32
  let v1735 : BitVec 32 := Scalar.muli v27 c1_i32_1537
  let v1736 : BitVec 32 := Scalar.addi v1734 v1735
  v1736.toNat
def k0_dev59 (d0 : Dev nD) : Nat :=
  let c0_i32_1545 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1544 : BitVec 32 := 8#32
  let v1745 : BitVec 32 := Scalar.muli v2 c8_i32_1544
  let v1746 : BitVec 32 := Scalar.addi c0_i32_1545 v1745
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1546 : BitVec 32 := 4#32
  let v1747 : BitVec 32 := Scalar.muli v40 c4_i32_1546
  let v1748 : BitVec 32 := Scalar.addi v1746 v1747
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1547 : BitVec 32 := 1#32
  let v1749 : BitVec 32 := Scalar.muli v43 c1_i32_1547
  let v1750 : BitVec 32 := Scalar.addi v1748 v1749
  v1750.toNat
def k0_dev60 (d0 : Dev nD) : Nat :=
  let c0_i32_1594 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1593 : BitVec 32 := 8#32
  let v1809 : BitVec 32 := Scalar.muli v2 c8_i32_1593
  let v1810 : BitVec 32 := Scalar.addi c0_i32_1594 v1809
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1595 : BitVec 32 := 4#32
  let v1811 : BitVec 32 := Scalar.muli v24 c4_i32_1595
  let v1812 : BitVec 32 := Scalar.addi v1810 v1811
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1596 : BitVec 32 := 1#32
  let v1813 : BitVec 32 := Scalar.muli v27 c1_i32_1596
  let v1814 : BitVec 32 := Scalar.addi v1812 v1813
  v1814.toNat
def k0_dev61 (d0 : Dev nD) : Nat :=
  let c0_i32_1629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1628 : BitVec 32 := 8#32
  let v1851 : BitVec 32 := Scalar.muli v2 c8_i32_1628
  let v1852 : BitVec 32 := Scalar.addi c0_i32_1629 v1851
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1630 : BitVec 32 := 4#32
  let v1853 : BitVec 32 := Scalar.muli v24 c4_i32_1630
  let v1854 : BitVec 32 := Scalar.addi v1852 v1853
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1631 : BitVec 32 := 1#32
  let v1855 : BitVec 32 := Scalar.muli v27 c1_i32_1631
  let v1856 : BitVec 32 := Scalar.addi v1854 v1855
  v1856.toNat
def k0_dev62 (d0 : Dev nD) : Nat :=
  let c0_i32_1664 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1663 : BitVec 32 := 8#32
  let v1893 : BitVec 32 := Scalar.muli v2 c8_i32_1663
  let v1894 : BitVec 32 := Scalar.addi c0_i32_1664 v1893
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1665 : BitVec 32 := 4#32
  let v1895 : BitVec 32 := Scalar.muli v24 c4_i32_1665
  let v1896 : BitVec 32 := Scalar.addi v1894 v1895
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1666 : BitVec 32 := 1#32
  let v1897 : BitVec 32 := Scalar.muli v27 c1_i32_1666
  let v1898 : BitVec 32 := Scalar.addi v1896 v1897
  v1898.toNat
def k0_dev63 (d0 : Dev nD) : Nat :=
  let c0_i32_1699 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1698 : BitVec 32 := 8#32
  let v1935 : BitVec 32 := Scalar.muli v2 c8_i32_1698
  let v1936 : BitVec 32 := Scalar.addi c0_i32_1699 v1935
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_1700 : BitVec 32 := 4#32
  let v1937 : BitVec 32 := Scalar.muli v24 c4_i32_1700
  let v1938 : BitVec 32 := Scalar.addi v1936 v1937
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1701 : BitVec 32 := 1#32
  let v1939 : BitVec 32 := Scalar.muli v27 c1_i32_1701
  let v1940 : BitVec 32 := Scalar.addi v1938 v1939
  v1940.toNat
def k0_dev64 (d0 : Dev nD) : Nat :=
  let c0_i32_1734 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1733 : BitVec 32 := 8#32
  let v1977 : BitVec 32 := Scalar.muli v2 c8_i32_1733
  let v1978 : BitVec 32 := Scalar.addi c0_i32_1734 v1977
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1735 : BitVec 32 := 4#32
  let v1979 : BitVec 32 := Scalar.muli v40 c4_i32_1735
  let v1980 : BitVec 32 := Scalar.addi v1978 v1979
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1736 : BitVec 32 := 1#32
  let v1981 : BitVec 32 := Scalar.muli v43 c1_i32_1736
  let v1982 : BitVec 32 := Scalar.addi v1980 v1981
  v1982.toNat
def k0_dev65 (d0 : Dev nD) : Nat :=
  let c0_i32_1769 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1768 : BitVec 32 := 8#32
  let v2019 : BitVec 32 := Scalar.muli v2 c8_i32_1768
  let v2020 : BitVec 32 := Scalar.addi c0_i32_1769 v2019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1770 : BitVec 32 := 4#32
  let v2021 : BitVec 32 := Scalar.muli v40 c4_i32_1770
  let v2022 : BitVec 32 := Scalar.addi v2020 v2021
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1771 : BitVec 32 := 1#32
  let v2023 : BitVec 32 := Scalar.muli v43 c1_i32_1771
  let v2024 : BitVec 32 := Scalar.addi v2022 v2023
  v2024.toNat
def k0_dev66 (d0 : Dev nD) : Nat :=
  let c0_i32_1804 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1803 : BitVec 32 := 8#32
  let v2061 : BitVec 32 := Scalar.muli v2 c8_i32_1803
  let v2062 : BitVec 32 := Scalar.addi c0_i32_1804 v2061
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1805 : BitVec 32 := 4#32
  let v2063 : BitVec 32 := Scalar.muli v40 c4_i32_1805
  let v2064 : BitVec 32 := Scalar.addi v2062 v2063
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1806 : BitVec 32 := 1#32
  let v2065 : BitVec 32 := Scalar.muli v43 c1_i32_1806
  let v2066 : BitVec 32 := Scalar.addi v2064 v2065
  v2066.toNat
def k0_dev67 (d0 : Dev nD) : Nat :=
  let c0_i32_1839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1838 : BitVec 32 := 8#32
  let v2103 : BitVec 32 := Scalar.muli v2 c8_i32_1838
  let v2104 : BitVec 32 := Scalar.addi c0_i32_1839 v2103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_1840 : BitVec 32 := 4#32
  let v2105 : BitVec 32 := Scalar.muli v40 c4_i32_1840
  let v2106 : BitVec 32 := Scalar.addi v2104 v2105
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1841 : BitVec 32 := 1#32
  let v2107 : BitVec 32 := Scalar.muli v43 c1_i32_1841
  let v2108 : BitVec 32 := Scalar.addi v2106 v2107
  v2108.toNat
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
module

public import proofs.«01_k».proof.Defs
public import proofs.«01_k».proof.Proof.Gen.KernelIdeal
public import proofs.«01_k».proof.Proof.Gen.KernelIdeal.Launch
public import proofs.«01_k».proof.Proof.Gen.KernelIdeal.Frame
public import Idealize.ShloMosaic.Adequacy
public import Idealize.ShloMosaic.Init

@[expose] public section

set_option maxRecDepth 65536

noncomputable section

/-! # The kernel's body as a sequence of stages

The printed body is one straight line of some 370 memory operations. The same line is written here as
stages over the chunk number `s` and the hop number `h`, and shown to be the printed one. Every stage is
a function of what follows it. -/

namespace Cert.KernelIdeal.Work

open Idealize.ShloMosaic Idealize.ShloMosaic.TcCoe Idealize.ShloMosaic.Tactic
open Idealize.SL.Sem
open Facts₀ Facts

variable {F : FTy → Type} [FloatOps F] [Facts]

/-- A program of the core: what a stage is given and returns. -/
abbrev Line (F : FTy → Type) [FloatOps F] [Facts] := Prog (TpuEff nD τ sig (Elt F) Λ₀ .tc) PUnit

/-! ## The buffers and their parts -/

abbrev xIn : Memref sig .tc .hbm S2048x2048 .f32 := Memref.whole main_arg0
abbrev dyIn : Memref sig .tc .hbm S2048x8192 .f32 := Memref.whole main_arg1
abbrev out : Memref sig .tc .hbm S1024x8192 .f32 := Memref.whole main_v1
abbrev xob : Memref sig .tc .vmem S2048x1024 .f32 := Memref.whole cc0_scratch0
abbrev xmb : Memref sig .tc .vmem S2048x1024 .f32 := Memref.whole cc0_scratch1
abbrev dyb : Memref sig .tc .vmem S2048x1024 .f32 := Memref.whole cc0_scratch2
abbrev po : Memref sig .tc .vmem S8x1024x128 .f32 := Memref.whole cc0_scratch3
abbrev pm : Memref sig .tc .vmem S8x1024x128 .f32 := Memref.whole cc0_scratch4
abbrev xr : Memref sig .tc .vmem S8x1024x128 .f32 := Memref.whole cc0_scratch5

theorem slot_inb (s : Fin 8) : ∀ a, (![s.val, 0, 0] : Fin 3 → Nat) a + S1x1024x128.size a ≤ S8x1024x128.size a := by
  revert s; decide

theorem cols_inb (s : Fin 8) : ∀ a, (![0, 128 * s.val] : Fin 2 → Nat) a + S2048x128.size a ≤ S2048x1024.size a := by
  revert s; decide

theorem flag_inb (s : Fin 8) : ∀ a, (![s.val] : Fin 1 → Nat) a + S1.size a ≤ S8.size a := by
  revert s; decide

theorem hop_inb (k : Fin 32) : ∀ a, (![k.val] : Fin 1 → Nat) a + S1.size a ≤ S32.size a := by
  revert k; decide

/-- Slot `s` of an array of eight chunks, as the kernel addresses it in loads and stores; -/
abbrev slotRect (s : Fin 8) : Rect S8x1024x128 :=
  Rect.unit (s := S8x1024x128) ![s.val, 0, 0] S1x1024x128.size (slot_inb s)

/-- and as it addresses it in transfers. -/
abbrev slot (M : Memref sig .tc .vmem S8x1024x128 .f32) (s : Fin 8) : Memref sig .tc .vmem S1024x128 .f32 :=
  (M.slice (slotRect s) (fun _ => rfl)).squeeze S1024x128 squeezes_S1x1024x128_S1024x128

/-- The columns of `dyb` that chunk `s` is made of. -/
abbrev colsRect (s : Fin 8) : Rect S2048x1024 :=
  Rect.unit (s := S2048x1024) ![0, 128 * s.val] S2048x128.size (cols_inb s)

abbrev flag8 (A : DmaSems sig S8) (s : Fin 8) : DmaSem sig :=
  ((A.slice (Rect.unit (s := S8) ![s.val] S1.size (flag_inb s))).squeeze S_ squeezes_S1_S_).sem

abbrev flag32 (A : DmaSems sig S32) (k : Fin 32) : DmaSem sig :=
  ((A.slice (Rect.unit (s := S32) ![k.val] S1.size (hop_inb k))).squeeze S_ squeezes_S1_S_).sem

/-- A block of 128 columns of the result. -/
abbrev piece (off : Fin 2 → Nat) (inb : ∀ a, off a + S1024x128.size a ≤ S1024x8192.size a) :
    Memref sig .tc .hbm S1024x128 .f32 :=
  out.slice (Rect.unit (s := S1024x8192) off S1024x128.size inb) (fun _ => rfl)

/-- The block the device itself makes from chunk `s`. -/
abbrev ownPiece (d0 : Dev nD) (s : Fin 8) : Memref sig .tc .hbm S1024x128 .f32 :=
  piece (k0_off4 d0 (BitVec.ofNat 32 (128 * s.val))) (k0_off4_inb d0 s)

/-- The row of the printed tables of relayed blocks that hop `h` of chunk `s` reads. -/
def row (h : Fin 4) (s : Fin 8) : Fin 20 :=
  if h.val = 3 then Fin.ofNat 20 (16 + s.val % 4) else Fin.ofNat 20 (8 * (h.val - 1) + s.val)

/-- The block relayed at hop `h ≥ 1` of chunk `s`: clockwise (`false`) and counterclockwise (`true`). -/
abbrev relayPiece (d0 : Dev nD) : Bool → Fin 4 → Fin 8 → Memref sig .tc .hbm S1024x128 .f32
  | false, h, s => piece (k0_off5 d0 (k0_off5_at (row h s)).1 (k0_off5_at (row h s)).2) (k0_off5_inb d0 (row h s))
  | true, h, s => piece (k0_off6 d0 (k0_off6_at (row h s)).1 (k0_off6_at (row h s)).2) (k0_off6_inb d0 (row h s))

/-- The place of hop `h` of chunk `s` in a ring's arrays of semaphores. -/
abbrev hopNo (h : Fin 4) (s : Fin 8) : Fin 32 := Fin.ofNat 32 (8 * h.val + s.val)

abbrev sendFlag : Bool → Fin 4 → Fin 8 → DmaSem sig
  | false, h, s => flag32 cc0_scratch12 (hopNo h s)
  | true, h, s => flag32 cc0_scratch14 (hopNo h s)

abbrev recvFlag : Bool → Fin 4 → Fin 8 → DmaSem sig
  | false, h, s => flag32 cc0_scratch13 (hopNo h s)
  | true, h, s => flag32 cc0_scratch15 (hopNo h s)

/-- The device on the other half of the mesh, and the two neighbours on the ring. -/
abbrev otherDev (d0 : Dev nD) : Dev nD := ⟨k0_dev4 d0, k0_dev4_lt d0⟩
abbrev nextDev (d0 : Dev nD) : Bool → Dev nD
  | false => ⟨k0_dev6 d0, k0_dev6_lt d0⟩
  | true => ⟨k0_dev7 d0, k0_dev7_lt d0⟩

/-! ## The stages -/

abbrev xBlock0 (d0 : Dev nD) : Memref sig .tc .hbm S2048x1024 .f32 :=
  xIn.slice (Rect.unit (s := S2048x2048) (k0_off1 d0) S2048x1024.size (k0_off1_inb d0)) (fun _ => rfl)
abbrev xBlock1 (d0 : Dev nD) : Memref sig .tc .hbm S2048x1024 .f32 :=
  xIn.slice (Rect.unit (s := S2048x2048) (k0_off2 d0) S2048x1024.size (k0_off2_inb d0)) (fun _ => rfl)
abbrev dyBlock (d0 : Dev nD) : Memref sig .tc .hbm S2048x1024 .f32 :=
  dyIn.slice (Rect.unit (s := S2048x8192) (k0_off3 d0) S2048x1024.size (k0_off3_inb d0)) (fun _ => rfl)

abbrev barSem : Sem sig := (SemArray.scalar (sig.barrier 0 rfl) : Sems sig S_).sem

/-- The three blocks are fetched, and the devices that will be written to are heard from. -/
def opening (d0 : Dev nD) (k : Line F) : Line F :=
  .op (.enqueueDma (xBlock0 d0) (.here xob) (.dma cc0_scratch6.sem) (View.wordExact_bits rfl) (Memref.isWhole_whole _).wordExact ⟨Or.inl rfl, trivial⟩) fun _ =>
  .op (.enqueueDma (xBlock1 d0) (.here xmb) (.dma cc0_scratch7.sem) (View.wordExact_bits rfl) (Memref.isWhole_whole _).wordExact ⟨Or.inl rfl, trivial⟩) fun _ =>
  .op (.semSignal ((⟨k0_dev1 d0, k0_dev1_lt d0⟩ : Dev nD), .tc) barSem (1#32).toInt) fun _ =>
  .op (.semSignal ((⟨k0_dev2 d0, k0_dev2_lt d0⟩ : Dev nD), .tc) barSem (1#32).toInt) fun _ =>
  .op (.semSignal ((⟨k0_dev3 d0, k0_dev3_lt d0⟩ : Dev nD), .tc) barSem (1#32).toInt) fun _ =>
  .op (.semWait barSem (3#32).toInt) fun _ =>
  .op (.enqueueDma (dyBlock d0) (.here dyb) (.dma cc0_scratch8.sem) (View.wordExact_bits rfl) (Memref.isWhole_whole _).wordExact ⟨Or.inl rfl, trivial⟩) fun _ =>
  .op (.waitDma2 cc0_scratch8.sem (dyBlock d0) dyb (View.wordExact_bits rfl) (Memref.isWhole_whole _).wordExact) fun _ =>
  .op (.waitDma2 cc0_scratch6.sem (xBlock0 d0) xob (View.wordExact_bits rfl) (Memref.isWhole_whole _).wordExact) fun _ =>
  .op (.waitDma2 cc0_scratch7.sem (xBlock1 d0) xmb (View.wordExact_bits rfl) (Memref.isWhole_whole _).wordExact) fun _ => k

/-- What a device makes of its rows of the two arguments for one chunk, as the kernel stores it. -/
def product (a : Vec F S2048x1024 .f32) (b : Vec F S2048x128 .f32) : FVec F S1x1024x128 .f32 :=
  shapeCast S1x1024x128
    (matmul dot_S2048x1024_S2048x128_S1024x128_0_0_1_1_n_n none a b (constant S1024x128 .f32 0x00000000#32))
    shapeCasts_S1024x128_S1x1024x128

/-- Chunk `s` is made from a block `X` of the first argument and stored in `M`. -/
def make (X : Memref sig .tc .vmem S2048x1024 .f32) (M : Memref sig .tc .vmem S8x1024x128 .f32) (s : Fin 8) (k : Line F) : Line F :=
  .op (.load X (Rect.unit (s := S2048x1024) ![0, 0] S2048x1024.size inb_S2048x1024_S2048x1024_0_0).toLoadRect (View.loadsAt_vmem h_S2048x1024)) fun a =>
  .op (.load dyb (colsRect s).toLoadRect (View.loadsAt_vmem h_S2048x128)) fun b =>
  .op (.load M (slotRect s).toLoadRect (View.loadsAt_vmem h_S1x1024x128)) fun _ =>
  .op (.store M (slotRect s) (product a b) Finset.univ (View.stores_vmem_bits_univ h_S1x1024x128 rfl) (.inl rfl)) fun _ => k

/-- The chunk made for the other half of the mesh goes there. -/
def ship (d0 : Dev nD) (s : Fin 8) (k : Line F) : Line F :=
  .op (.enqueueDma (slot po s) (.remote (Dev.tc (otherDev d0)) (slot xr s) (.dma (flag8 cc0_scratch10 s))) (.dma (flag8 cc0_scratch11 s))
    ((View.wordExact_bits rfl).reshape _ _) ((View.wordExact_bits rfl).reshape _ _) ⟨⟨rfl, Or.inl rfl⟩, trivial⟩) fun _ => k

/-- Both chunks numbered `s`: the other half's, sent as soon as it is made, and the device's own. -/
def compute (d0 : Dev nD) (s : Fin 8) (k : Line F) : Line F :=
  make xob po s (ship d0 s (make xmb pm s k))

/-- What came from the other half is added to the device's own chunk. -/
def addUp (s : Fin 8) (k : Line F) : Line F :=
  .op (.waitDma2 (flag8 cc0_scratch10 s) (slot xr s) (slot po s) ((View.wordExact_bits rfl).reshape _ _) ((View.wordExact_bits rfl).reshape _ _)) fun _ =>
  .op (.waitDma2 (flag8 cc0_scratch11 s) (slot po s) (slot xr s) ((View.wordExact_bits rfl).reshape _ _) ((View.wordExact_bits rfl).reshape _ _)) fun _ =>
  .op (.load pm (slotRect s).toLoadRect (View.loadsAt_vmem h_S1x1024x128)) fun v =>
  .op (.load xr (slotRect s).toLoadRect (View.loadsAt_vmem h_S1x1024x128)) fun w =>
  .op (.load pm (slotRect s).toLoadRect (View.loadsAt_vmem h_S1x1024x128)) fun _ =>
  .op (.store pm (slotRect s) (shapeCast S1x1024x128 (addf (shapeCast S1024x128 v shapeCasts_S1x1024x128_S1024x128)
      (shapeCast S1024x128 w shapeCasts_S1x1024x128_S1024x128)) shapeCasts_S1024x128_S1x1024x128)
    Finset.univ (View.stores_vmem_bits_univ h_S1x1024x128 rfl) (.inl rfl)) fun _ => k

/-- The finished chunk starts in direction `b` round the ring. -/
def launchHop (d0 : Dev nD) (b : Bool) (s : Fin 8) (k : Line F) : Line F :=
  .op (.enqueueDma (slot pm s) (.remote (Dev.tc (nextDev d0 b)) (ownPiece d0 s) (.dma (sendFlag b 0 s))) (.dma (recvFlag b 0 s))
    ((View.wordExact_bits rfl).reshape _ _) (View.wordExact_bits rfl) ⟨⟨rfl, Or.inl rfl⟩, trivial⟩) fun _ => k

/-- The chunk is finished, put in the device's own result and started both ways round the ring. -/
def finish (d0 : Dev nD) (s : Fin 8) (k : Line F) : Line F :=
  addUp s <|
  .op (.enqueueDma (slot pm s) (.here (ownPiece d0 s)) (.dma (flag8 cc0_scratch9 s)) ((View.wordExact_bits rfl).reshape _ _) (View.wordExact_bits rfl) ⟨Or.inl rfl, trivial⟩) fun _ =>
  launchHop d0 false s (launchHop d0 true s k)

/-- Both ends of hop `h` of chunk `s` are waited for: the first hop's, -/
def awaitFirst (d0 : Dev nD) (b : Bool) (s : Fin 8) (k : Line F) : Line F :=
  .op (.waitDma2 (sendFlag b 0 s) (ownPiece d0 s) (slot pm s) (View.wordExact_bits rfl) ((View.wordExact_bits rfl).reshape _ _)) fun _ =>
  .op (.waitDma2 (recvFlag b 0 s) (slot pm s) (ownPiece d0 s) ((View.wordExact_bits rfl).reshape _ _) (View.wordExact_bits rfl)) fun _ => k

/-- and a later one's. -/
def awaitRelay (d0 : Dev nD) (b : Bool) (h : Fin 4) (s : Fin 8) (k : Line F) : Line F :=
  .op (.waitDma2 (sendFlag b h s) (relayPiece d0 b h s) (relayPiece d0 b h s) (View.wordExact_bits rfl) (View.wordExact_bits rfl)) fun _ =>
  .op (.waitDma2 (recvFlag b h s) (relayPiece d0 b h s) (relayPiece d0 b h s) (View.wordExact_bits rfl) (View.wordExact_bits rfl)) fun _ => k

/-- What the last hop brought goes on. -/
def relay (d0 : Dev nD) (b : Bool) (h : Fin 4) (s : Fin 8) (k : Line F) : Line F :=
  .op (.enqueueDma (relayPiece d0 b h s) (.remote (Dev.tc (nextDev d0 b)) (relayPiece d0 b h s) (.dma (sendFlag b h s))) (.dma (recvFlag b h s))
    (View.wordExact_bits rfl) (View.wordExact_bits rfl) ⟨⟨rfl, Or.inl rfl⟩, trivial⟩) fun _ => k

/-- One chunk at the second hop, the third, and the fourth — which each chunk makes one way only. -/
def ring1 (d0 : Dev nD) (s : Fin 8) (k : Line F) : Line F :=
  awaitFirst d0 false s (awaitFirst d0 true s (relay d0 false 1 s (relay d0 true 1 s k)))
def ring2 (d0 : Dev nD) (s : Fin 8) (k : Line F) : Line F :=
  awaitRelay d0 false 1 s (awaitRelay d0 true 1 s (relay d0 false 2 s (relay d0 true 2 s k)))
def ring3 (d0 : Dev nD) (b : Bool) (s : Fin 8) (k : Line F) : Line F :=
  awaitRelay d0 false 2 s (awaitRelay d0 true 2 s (relay d0 b 3 s k))

/-- The device's own block `s` is in its result. -/
def settle (d0 : Dev nD) (s : Fin 8) (k : Line F) : Line F :=
  .op (.waitDma2 (flag8 cc0_scratch9 s) (slot pm s) (ownPiece d0 s) ((View.wordExact_bits rfl).reshape _ _) (View.wordExact_bits rfl)) fun _ => k

/-- A stage for each chunk of a list, in order. -/
def each (M : Fin 8 → Line F → Line F) : List (Fin 8) → Line F → Line F
  | [], k => k
  | s :: l, k => M s (each M l k)

/-- The whole body after it has asked which device it is on. -/
def line (d0 : Dev nD) : Line F :=
  opening d0 <| compute d0 0 <|
  each (fun s k => compute d0 s (finish d0 (s - 1) k)) [1, 2, 3, 4, 5, 6, 7] <|
  finish d0 7 <|
  each (ring1 d0) [0, 1, 2, 3, 4, 5, 6, 7] <|
  each (ring2 d0) [0, 1, 2, 3, 4, 5, 6, 7] <|
  each (ring3 d0 false) [0, 1, 2, 3] <| each (ring3 d0 true) [4, 5, 6, 7] <|
  each (awaitRelay d0 false 3) [0, 1, 2, 3] <| each (awaitRelay d0 true 3) [4, 5, 6, 7] <|
  each (settle d0) [0, 1, 2, 3, 4, 5, 6, 7] (.ret ⟨⟩)

/-- The printed body is that line. -/
theorem body_eq :
    cc0_body (F := F) (Memref.whole main_arg0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13 cc0_scratch14 cc0_scratch15
    = .op .deviceId line := by
  chain_rfl

end Cert.KernelIdeal.Work
-- ==== Proof.Mesh.lean ====
module

public import proofs.«01_k».proof.Proof.Program

@[expose] public section

set_option maxRecDepth 65536

noncomputable section

/-! # Who talks to whom

Sixteen devices: two halves of eight, each half a ring. A device is named by its half and its place on the
ring. The facts here are finite and decided. -/

namespace Cert.KernelIdeal.Work

open Idealize.ShloMosaic Idealize.ShloMosaic.TcCoe Idealize.ShloMosaic.Tactic
open Idealize.SL.Sem
open Facts₀ Facts

/-! ## Halves and places -/

/-- Which half of the mesh a device is in, -/
def half (c : Dev nD) : Fin 2 := Fin.ofNat 2 (c.val / 8)
/-- and its place on that half's ring. -/
def place (c : Dev nD) : Fin 8 := if (c.val / 4) % 2 = 0 then Fin.ofNat 8 (c.val % 4) else Fin.ofNat 8 (7 - c.val % 4)

/-- The device at a place of a half. -/
def devAt (x : Fin 2) (p : Fin 8) : Dev nD :=
  Fin.ofNat nD (8 * x.val + if p.val < 4 then p.val else 11 - p.val)

theorem devAt_self (c : Dev nD) : devAt (half c) (place c) = c := by revert c; decide
theorem half_devAt (x : Fin 2) (p : Fin 8) : half (devAt x p) = x := by revert x p; decide
theorem place_devAt (x : Fin 2) (p : Fin 8) : place (devAt x p) = p := by revert x p; decide

/-- The device with the same place in the other half; -/
def oth (c : Dev nD) : Dev nD := devAt (1 - half c) (place c)
/-- the neighbour a device sends to in direction `b`: clockwise (`false`) or counterclockwise; -/
def nb (b : Bool) (c : Dev nD) : Dev nD := devAt (half c) (if b then place c - 1 else place c + 1)

theorem oth_oth (c : Dev nD) : oth (oth c) = c := by revert c; decide
theorem nb_nb (b : Bool) (c : Dev nD) : nb b (nb (!b) c) = c := by revert b c; decide
theorem half_nb (b : Bool) (c : Dev nD) : half (nb b c) = half c := by revert b c; decide

def othE : Dev nD ≃ Dev nD := ⟨oth, oth, oth_oth, oth_oth⟩
def nbE (b : Bool) : Dev nD ≃ Dev nD :=
  ⟨nb b, nb (!b), fun c => by revert b c; decide, fun c => nb_nb b c⟩

/-! ## Which blocks travel -/

/-- Hop `h` of chunk `s` is made in direction `b`: the last one only by half of the chunks. -/
def used (b : Bool) (h : Fin 4) (s : Fin 8) : Bool :=
  decide (h.val < 3) || (if b then decide (4 ≤ s.val) else decide (s.val < 4))

/-- The place whose block a device sends at hop `h`, -/
def src (b : Bool) (p : Fin 8) (h : Fin 4) : Fin 8 := if b then p + Fin.ofNat 8 h.val else p - Fin.ofNat 8 h.val
/-- and the one whose block it is sent. -/
def got (b : Bool) (p : Fin 8) (h : Fin 4) : Fin 8 := if b then p + Fin.ofNat 8 (h.val + 1) else p - Fin.ofNat 8 (h.val + 1)

theorem got_nb (b : Bool) (c : Dev nD) (h : Fin 4) : got b (place (nb b c)) h = src b (place c) h := by revert b c h; decide
theorem src_nb (b : Bool) (c : Dev nD) (h : Fin 4) : src b (place (nb (!b) c)) h = got b (place c) h := by revert b c h; decide
theorem src_zero (b : Bool) (p : Fin 8) : src b p 0 = p := by revert b p; decide
theorem src_one (b : Bool) (p : Fin 8) : src b p 1 = got b p 0 := by revert b p; decide
theorem src_two (b : Bool) (p : Fin 8) : src b p 2 = got b p 1 := by revert b p; decide
theorem src_three (b : Bool) (p : Fin 8) : src b p 3 = got b p 2 := by revert b p; decide

/-! ## The kernel's own words for them -/

theorem otherDev_eq (c : Dev nD) : otherDev c = oth c := by
  have h : ∀ c : Dev nD, k0_dev4 c = (oth c).val := by decide +kernel
  exact Fin.ext (h c)
theorem nextDev_eq (c : Dev nD) (b : Bool) : nextDev c b = nb b c := by
  have h6 : ∀ c : Dev nD, k0_dev6 c = (nb false c).val := by decide +kernel
  have h7 : ∀ c : Dev nD, k0_dev7 c = (nb true c).val := by decide +kernel
  cases b
  · exact Fin.ext (h6 c)
  · exact Fin.ext (h7 c)

theorem dev1_eq (c : Dev nD) : (⟨k0_dev1 c, k0_dev1_lt c⟩ : Dev nD) = oth c := by
  have h : ∀ c : Dev nD, k0_dev1 c = (oth c).val := by decide +kernel
  exact Fin.ext (h c)
theorem dev2_eq (c : Dev nD) : (⟨k0_dev2 c, k0_dev2_lt c⟩ : Dev nD) = nb false c := by
  have h : ∀ c : Dev nD, k0_dev2 c = (nb false c).val := by decide +kernel
  exact Fin.ext (h c)
theorem dev3_eq (c : Dev nD) : (⟨k0_dev3 c, k0_dev3_lt c⟩ : Dev nD) = nb true c := by
  have h : ∀ c : Dev nD, k0_dev3 c = (nb true c).val := by decide +kernel
  exact Fin.ext (h c)

/-! ## The blocks of the result -/

theorem blk_inb (o s : Fin 8) : ∀ a, (![0, 1024 * o.val + 128 * s.val] : Fin 2 → Nat) a + S1024x128.size a ≤ S1024x8192.size a := by
  revert o s; decide

abbrev blkRect (o s : Fin 8) : Rect S1024x8192 :=
  Rect.unit (s := S1024x8192) ![0, 1024 * o.val + 128 * s.val] S1024x128.size (blk_inb o s)

/-- Chunk `s` of the block that place `o` makes. -/
abbrev blk (o s : Fin 8) : Memref sig .tc .hbm S1024x128 .f32 := out.slice (blkRect o s) (fun _ => rfl)

theorem piece_congr {off off' : Fin 2 → Nat} (h : off = off') (i : ∀ a, off a + S1024x128.size a ≤ S1024x8192.size a)
    (i' : ∀ a, off' a + S1024x128.size a ≤ S1024x8192.size a) : piece off i = piece off' i' := by subst h; rfl

theorem ownPiece_eq (c : Dev nD) (s : Fin 8) : ownPiece c s = blk (place c) s := by
  have h : ∀ (c : Dev nD) (s : Fin 8), k0_off4 c (BitVec.ofNat 32 (128 * s.val)) = ![0, 1024 * (place c).val + 128 * s.val] := by
    decide +kernel
  exact piece_congr (h c s) _ _

theorem relayPiece_eq (c : Dev nD) (b : Bool) (h : Fin 4) (s : Fin 8) (h0 : h ≠ 0) (hu : used b h s = true) :
    relayPiece c b h s = blk (src b (place c) h) s := by
  have h5 : ∀ (c : Dev nD) (h : Fin 4) (s : Fin 8), h ≠ 0 → used false h s = true →
      k0_off5 c (k0_off5_at (row h s)).1 (k0_off5_at (row h s)).2 = ![0, 1024 * (src false (place c) h).val + 128 * s.val] := by
    decide +kernel
  have h6 : ∀ (c : Dev nD) (h : Fin 4) (s : Fin 8), h ≠ 0 → used true h s = true →
      k0_off6 c (k0_off6_at (row h s)).1 (k0_off6_at (row h s)).2 = ![0, 1024 * (src true (place c) h).val + 128 * s.val] := by
    decide +kernel
  cases b
  · exact piece_congr (h5 c h s h0 hu) _ _
  · exact piece_congr (h6 c h s h0 hu) _ _

/-! ## The semaphores -/

/-- What a chunk has semaphores for: its store into the result; its exchange with the other half, sent and
    received; each hop in each direction, sent and received. -/
inductive Per | st | xs | xr | snd (b : Bool) (h : Fin 4) | rcv (b : Bool) (h : Fin 4)
deriving DecidableEq, Fintype

/-- A device's semaphores: the barrier's, the three fetches', the chunks'. -/
inductive Flag | bar | fetch (i : Fin 3) | per (s : Fin 8) (k : Per)
deriving DecidableEq, Fintype

def loc : Flag → SemLoc sig
  | .bar => .reg barSem
  | .fetch i => .dma (match i with | 0 => cc0_scratch6.sem | 1 => cc0_scratch7.sem | 2 => cc0_scratch8.sem)
  | .per s .st => .dma (flag8 cc0_scratch9 s)
  | .per s .xs => .dma (flag8 cc0_scratch10 s)
  | .per s .xr => .dma (flag8 cc0_scratch11 s)
  | .per s (.snd b h) => .dma (sendFlag b h s)
  | .per s (.rcv b h) => .dma (recvFlag b h s)

/-- Their numbers: the barrier's is a regular semaphore, put last. -/
def num : Flag → Fin 156
  | .bar => 155
  | .fetch i => Fin.ofNat 156 i.val
  | .per s .st => Fin.ofNat 156 (3 + s.val)
  | .per s .xs => Fin.ofNat 156 (11 + s.val)
  | .per s .xr => Fin.ofNat 156 (19 + s.val)
  | .per s (.snd b h) => Fin.ofNat 156 ((if b then 91 else 27) + 8 * h.val + s.val)
  | .per s (.rcv b h) => Fin.ofNat 156 ((if b then 123 else 59) + 8 * h.val + s.val)

def numOf : SemLoc sig → Nat
  | .reg _ => 155
  | .dma i => i.val

theorem numOf_loc (k : Flag) : numOf (loc k) = (num k).val := by
  revert k; decide +kernel

theorem num_injective : Function.Injective num := by
  have h : ∀ a b : Flag, num a = num b → a = b := by decide +kernel
  exact fun a b => h a b

theorem loc_injective : Function.Injective loc := fun a b h =>
  num_injective (Fin.ext (by rw [← numOf_loc, ← numOf_loc, h]))

end Cert.KernelIdeal.Work
-- ==== Proof.Protocol.lean ====
module

public import proofs.«01_k».proof.Proof.Mesh
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Rounds
public import Idealize.ShloMosaic.Lib.Tactic

@[expose] public section

set_option maxRecDepth 65536

noncomputable section

/-! # The protocol

Every semaphore of every device is used for one round only. What a completed transfer or a signal hands to the
device that waits for it is the payload of its semaphore. -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Names of duties: the partner in the other half pays `none`, the ring neighbours `some`; a transfer's
    semaphore has the single duty `none`. -/
abbrev Duty := Option Bool

abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Holding parts of buffers -/

/-- Device `c` holds a share of the elements of `M` and reads `X` there. -/
abbrev holds (c : Dev nD) {sp : Space} {sh : Shape} {e : EltTy} (M : Memref sig .tc sp sh e) (q : PosShare TreeShare)
    (X : sh.Idx → Elt F e) : sProp 𝕄 := owns (c : Thread nD τ) M q X

/-- The elements of `M` on device `c`, whatever they are. -/
def held (c : Dev nD) {sp : Space} {sh : Shape} {e : EltTy} (M : Memref sig .tc sp sh e) : sProp 𝕄 :=
  iprop(∃ X : sh.Idx → Elt F e, holds c M fullShare X)

omit [FloatOps F] in
instance held_storable (c : Dev nD) {sp : Space} {sh : Shape} {e : EltTy} (M : Memref sig .tc sp sh e) :
    BI.Storable (upEmb : UEmb _ 𝕄) (held (F := F) c M) := by unfold held; infer_instance

/-- The three shares a finished chunk is lent out in: to its store, and to each direction round the ring. -/
def storeShare : PosShare TreeShare := (fullShare : PosShare TreeShare).left
def hopShare (b : Bool) : PosShare TreeShare := if b then (fullShare : PosShare TreeShare).right.right else (fullShare : PosShare TreeShare).right.left

/-! ## The values -/

abbrev XBlock (F : FTy → Type) := S2048x1024.Idx → Elt F .f32
abbrev Chunk (F : FTy → Type) := S1024x128.Idx → Elt F .f32

/-- What device `c` fetches: the other half's columns of its rows of the first argument, its own half's, its block of
    the second. -/
def xoV (c : Dev nD) : XBlock F := (xBlock0 c).view.read (Elt F) (m ((c : Thread nD τ).loc main_arg0))
def xmV (c : Dev nD) : XBlock F := (xBlock1 c).view.read (Elt F) (m ((c : Thread nD τ).loc main_arg0))
def dyV (c : Dev nD) : XBlock F := (dyBlock c).view.read (Elt F) (m ((c : Thread nD τ).loc main_arg1))

/-- The columns of the second argument's block that chunk `s` is made of. -/
def colsOf (s : Fin 8) (D : XBlock F) : S2048x128.Idx → Elt F .f32 := dyb.view.readAt (Elt F) (colsRect s).toLoadRect D

/-- A chunk before it is cast for its slot. -/
def chunkOf (a : Vec F S2048x1024 .f32) (b : Vec F S2048x128 .f32) : Chunk F :=
  matmul dot_S2048x1024_S2048x128_S1024x128_0_0_1_1_n_n none a b (constant S1024x128 .f32 0x00000000#32)

def poV (c : Dev nD) (s : Fin 8) : Chunk F := chunkOf (xoV m c) (colsOf s (dyV m c))
def pmV (c : Dev nD) (s : Fin 8) : Chunk F := chunkOf (xmV m c) (colsOf s (dyV m c))
/-- The finished chunk `s` of device `c`; -/
def resV (c : Dev nD) (s : Fin 8) : Chunk F := addf (F := F) (s := S1024x128) (φ := .f32) (pmV m c s) (poV m (oth c) s)
/-- that of the device at place `o` of `c`'s half. -/
def rowV (c : Dev nD) (o s : Fin 8) : Chunk F := resV m (devAt (half c) o) s

theorem rowV_self (c : Dev nD) (s : Fin 8) : rowV m c (place c) s = resV m c s := by unfold rowV; rw [devAt_self]
theorem rowV_nb (b : Bool) (c : Dev nD) (o s : Fin 8) : rowV m (nb b c) o s = rowV m c o s := by unfold rowV; rw [half_nb]

/-! ## The schedule -/

abbrev cell (c : Dev nD) (k : Flag) : GSem nD τ sig := ((c : Thread nD τ), loc k)

/-- The place on the neighbour that hop `h` of chunk `s` will be written to. -/
def room (b : Bool) (h : Fin 4) (s : Fin 8) (c : Dev nD) : sProp 𝕄 :=
  if used b h s then held (nb b c) (blk (src b (place c) h) s) else iprop(emp)

def barPay (c : Dev nD) : Duty → sProp 𝕄
  | none => bigSep Finset.univ fun s : Fin 8 => held (oth c) (slot xr s)
  | some b => bigSep Finset.univ fun sh : Fin 8 × Fin 4 => room b sh.2 sh.1 c

def fetchPay (c : Dev nD) : Fin 3 → sProp 𝕄
  | 0 => holds c xob fullShare (xoV m c)
  | 1 => holds c xmb fullShare (xmV m c)
  | 2 => holds c dyb fullShare (dyV m c)

def perPay (c : Dev nD) (s : Fin 8) : Per → sProp 𝕄
  | .st => iprop(holds c (blk (place c) s) fullShare (rowV m c (place c) s) ∗ holds c (slot pm s) storeShare (resV m c s))
  | .xs => held c (slot po s)
  | .xr => holds c (slot xr s) fullShare (poV m (oth c) s)
  | .snd b h => if h = 0 then holds c (slot pm s) (hopShare b) (resV m c s)
      else holds c (blk (src b (place c) h) s) fullShare (rowV m c (src b (place c) h) s)
  | .rcv b h => holds c (blk (got b (place c) h) s) fullShare (rowV m c (got b (place c) h) s)

def pay (c : Dev nD) : Flag → Duty → sProp 𝕄
  | .bar, d => barPay c d
  | .fetch i, _ => fetchPay m c i
  | .per s k, _ => perPay m c s k

omit [FloatOps F] in
instance room_storable (b : Bool) (h : Fin 4) (s : Fin 8) (c : Dev nD) : BI.Storable (upEmb : UEmb _ 𝕄) (room (F := F) b h s c) := by
  unfold room; split <;> infer_instance

omit [FloatOps F] in
instance barPay_storable (c : Dev nD) (d : Duty) : BI.Storable (upEmb : UEmb _ 𝕄) (barPay (F := F) c d) := by
  cases d <;> (dsimp only [barPay]; infer_instance)

instance fetchPay_storable (c : Dev nD) (i : Fin 3) : BI.Storable (upEmb : UEmb _ 𝕄) (fetchPay m c i) := by
  fin_cases i <;> (dsimp only [fetchPay]; infer_instance)

instance perPay_storable (c : Dev nD) (s : Fin 8) (k : Per) : BI.Storable (upEmb : UEmb _ 𝕄) (perPay m c s k) := by
  cases k <;> dsimp only [perPay] <;> first | infer_instance | (split <;> infer_instance)

instance pay_storable (c : Dev nD) (k : Flag) (d : Duty) : BI.Storable (upEmb : UEmb _ 𝕄) (pay m c k d) := by
  cases k <;> (dsimp only [pay]; infer_instance)

/-- The credit of a fetched block, and of a chunk. -/
def fetchN : ℕ := (xob).view.dmaCredit
def chunkN : ℕ := (blk 0 0).view.dmaCredit

theorem fetchN_pos : 0 < fetchN := View.dmaCredit_pos _ (by decide)
theorem chunkN_pos : 0 < chunkN := View.dmaCredit_pos _ (by decide)

def amt : Flag → ℕ
  | .bar => 1
  | .fetch _ => fetchN
  | .per _ _ => chunkN

theorem amt_pos (k : Flag) : 0 < amt k := by
  cases k
  · exact Nat.one_pos
  · exact fetchN_pos
  · exact chunkN_pos

def usedFlag : Flag → Bool
  | .per s (.snd b h) => used b h s
  | .per s (.rcv b h) => used b h s
  | _ => true

/-- The duties of a semaphore. -/
def dutiesOf (k : Flag) : Finset Duty := if k = .bar then Finset.univ else if usedFlag k then {none} else ∅

/-- The flag of a semaphore, if it has one. -/
def flagOf : SemLoc sig → Option Flag := Function.partialInv loc
theorem flagOf_loc (k : Flag) : flagOf (loc k) = some k := Function.partialInv_left loc_injective k

def sched : Rounds.Schedule (GSem nD τ sig) Duty 𝕄 where
  duties g r := if r = 0 ∧ g.1.2 = .tc then (flagOf g.2).elim ∅ dutiesOf else ∅
  unitless _ := False
  amount g _ _ := (flagOf g.2).elim 1 amt
  payload g _ d := (flagOf g.2).elim iprop(emp) fun k => pay m g.1.1 k d
  amount_pos g _ _ _ := by
    cases flagOf g.2 with
    | none => exact Nat.one_pos
    | some k => exact amt_pos k

instance sched_storable (g : GSem nD τ sig) (r : ℕ) (d : Duty) :
    BI.Storable (upEmb : UEmb _ 𝕄) ((sched (F := F) m).payload g r d) := by
  show BI.Storable upEmb ((flagOf g.2).elim iprop(emp) fun k => pay m g.1.1 k d)
  cases flagOf g.2 with
  | none => exact inferInstanceAs (BI.Storable _ iprop(emp))
  | some k => exact pay_storable m g.1.1 k d

theorem duties_cell (c : Dev nD) (k : Flag) : (sched m).duties (cell c k) 0 = dutiesOf k := by
  dsimp only [sched]; rw [if_pos ⟨rfl, rfl⟩, flagOf_loc]; rfl
theorem duties_later (g : GSem nD τ sig) (r : ℕ) (hr : 1 ≤ r) : (sched m).duties g r = ∅ := by
  dsimp only [sched]; exact if_neg fun h => by omega
theorem duties_unused (c : Dev nD) (k : Flag) (hk : k ≠ .bar) (hu : usedFlag k = false) (r : ℕ) : (sched m).duties (cell c k) r = ∅ := by
  rcases Nat.eq_zero_or_pos r with rfl | hr
  · rw [duties_cell]; unfold dutiesOf; rw [if_neg hk, hu]; rfl
  · exact duties_later m _ r hr
theorem amount_cell (c : Dev nD) (k : Flag) (d : Duty) : (sched m).amount (cell c k) 0 d = amt k := by
  dsimp only [sched]; rw [flagOf_loc]; rfl
theorem payload_cell (c : Dev nD) (k : Flag) (d : Duty) : (sched m).payload (cell c k) 0 d = pay m c k d := by
  dsimp only [sched]; rw [flagOf_loc]; rfl

theorem dutiesOf_one {k : Flag} (hk : k ≠ .bar) (hu : usedFlag k = true) : dutiesOf k = {none} := by
  unfold dutiesOf; rw [if_neg hk, hu]; rfl

theorem expect_cell (c : Dev nD) (k : Flag) : (sched m).expect (cell c k) 0 = (dutiesOf k).card * amt k := by
  unfold Schedule.expect Schedule.amountOf
  rw [duties_cell, Finset.sum_congr rfl fun d _ => amount_cell m c k d, Finset.sum_const, smul_eq_mul]

/-- Everything a semaphore hands over. -/
theorem rest_cell (c : Dev nD) (k : Flag) :
    bigSep ((sched m).duties (cell c k) 0 \ ∅) (fun d => (sched m).payload (cell c k) 0 d) = bigSep (dutiesOf k) (pay m c k) := by
  rw [Finset.sdiff_empty, duties_cell]
  exact bigSep_congr fun d _ => payload_cell m c k d

/-! ## Who owes what, and in which order it is paid -/

/-- The semaphores a device pays on another device by a transfer, -/
def isDue : Flag → Bool
  | .per _ .xr => true
  | .per s (.rcv b h) => used b h s
  | _ => false

/-- that device, -/
def dest (c : Dev nD) : Flag → Dev nD
  | .per _ .xr => oth c
  | .per _ (.rcv b _) => nb b c
  | _ => c

/-- and when it does. -/
def turn : Flag → ℕ
  | .per s .xr => 3 * s.val - 2
  | .per s (.rcv b h) => (if h = 0 then 3 * s.val + 2 + b.toNat else if h = 1 then 25 + 2 * s.val + b.toNat
      else if h = 2 then 41 + 2 * s.val + b.toNat else 57 + s.val)
  | _ => 0

theorem turn_inj (j k : Flag) (hj : isDue j = true) (hk : isDue k = true) (h : turn j = turn k) : j = k := by
  have H : ∀ j k : Flag, isDue j = true → isDue k = true → turn j = turn k → j = k := by decide +kernel
  exact H j k hj hk h

/-- What device `c` still owes by transfers at turn `n`. -/
def due (c : Dev nD) (n : ℕ) : CellTallies nD τ sig Unit :=
  ∑ k ∈ Finset.univ.filter (fun k => isDue k = true ∧ n ≤ turn k), tallyAt (cell (dest c k) k) () (amt k)

theorem due_pay (c : Dev nD) (k : Flag) (hk : isDue k = true) : due c (turn k) = due c (turn k + 1) + tallyAt (cell (dest c k) k) () (amt k) := by
  unfold due
  have h : Finset.univ.filter (fun j => isDue j = true ∧ turn k ≤ turn j) = insert k (Finset.univ.filter fun j => isDue j = true ∧ turn k + 1 ≤ turn j) := by
    ext j
    simp only [Finset.mem_filter, Finset.mem_univ, true_and, Finset.mem_insert]
    constructor
    · rintro ⟨h1, h2⟩
      rcases Nat.lt_or_ge (turn k) (turn j) with h3 | h3
      · exact Or.inr ⟨h1, h3⟩
      · exact Or.inl (turn_inj j k h1 hk (by omega))
    · rintro (rfl | ⟨h1, h2⟩)
      · exact ⟨hk, Nat.le_refl _⟩
      · exact ⟨h1, by omega⟩
  rw [h, Finset.sum_insert (by simp), add_comm]

/-- Nothing is paid at turn 22. -/
theorem due_skip (c : Dev nD) : due c 22 = due c 23 := by
  unfold due
  have h : ∀ k : Flag, (isDue k = true ∧ 22 ≤ turn k) ↔ (isDue k = true ∧ 23 ≤ turn k) := by decide +kernel
  rw [Finset.filter_congr fun k _ => h k]

theorem due_end (c : Dev nD) : due c 65 = 0 := by
  unfold due
  have h : ∀ k : Flag, ¬ (isDue k = true ∧ 65 ≤ turn k) := by decide +kernel
  rw [Finset.filter_false_of_mem fun k _ => h k, Finset.sum_empty]

/-- The order in which semaphores may be waited for. -/
def lvl (k : Flag) : ℕ := if k = .bar then 1 else if isDue k then 2 + turn k else 0

def L (g : GSem nD τ sig) : Finset Unit := if g.1.2 = .tc then {()} else ∅
def lv (g : GSem nD τ sig) (_ : Unit) : ℕ := (flagOf g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Flag) : lv (cell c k) () = lvl k := by unfold lv; rw [flagOf_loc]; rfl

theorem due_pos {c : Dev nD} {n : ℕ} {g : GSem nD τ sig} {u : Unit} (h : 0 < due c n g u) :
    ∃ k, isDue k = true ∧ n ≤ turn k ∧ g = cell (dest c k) k := by
  by_contra hn
  have h0 : due c n g u = 0 := by
    unfold due
    rw [Finset.sum_apply, Finsupp.finset_sum_apply]
    refine Finset.sum_eq_zero fun k hk => ?_
    rw [tallyAt_apply]
    refine if_neg fun h' => hn ⟨k, (Finset.mem_filter.mp hk).2.1, (Finset.mem_filter.mp hk).2.2, h'.1⟩
  omega

omit [FloatOps F] in
/-- A semaphore low in the order may be waited for. -/
theorem may_wait (c : Dev nD) (k : Flag) (n : ℕ) (hl : lvl k < n + 2) :
    (levAts L lv : sProp 𝕄) ⊢ MayWait (c : Thread nD τ) (loc k) () (due c n) :=
  MayOwe.of_cut (L := L) (lev := lv) (lvl k) (fun p hp => by rw [Finset.mem_singleton.mp hp, L_tc]; exact Finset.mem_singleton_self _)
    (fun g u hg => by obtain ⟨j, -, -, rfl⟩ := due_pos hg; exact Finset.mem_singleton_self _)
    (fun p hp => by rw [Finset.mem_singleton.mp hp]; exact Nat.le_of_eq (lv_cell c k))
    (fun g u hg => by
      obtain ⟨j, hj, ht, rfl⟩ := due_pos hg
      refine lt_of_lt_of_le hl ?_
      rw [show lv (cell (dest c j) j) u = lvl j from lv_cell _ j]
      unfold lvl
      rw [if_neg (fun h => by subst h; cases hj), if_pos hj]
      omega)

/-- What device `c` owes at turn `n`. -/
def Owe (c : Dev nD) (n : ℕ) : sProp 𝕄 := iprop(∃ W, owes (c : Thread nD τ) (due c n) W)

/-! ## What everybody knows -/

/-- The semaphores' protocols, under the names they were put up at; that each is in its first round; the order. -/
def Known (K : Dev nD × Flag → ℕ) : sProp 𝕄 :=
  iprop((bigSep Finset.univ fun ck : Dev nD × Flag => cellInv ER (sched m) (K ck) (cell ck.1 ck.2))
    ∗ (bigSep Finset.univ fun ck : Dev nD × Flag => reached ER (cell ck.1 ck.2) 0) ∗ levAts L lv)

instance Known_persistent (K : Dev nD × Flag → ℕ) : BI.Persistent (Known m K) := by unfold Known; infer_instance

theorem known_inv (K : Dev nD × Flag → ℕ) (c : Dev nD) (k : Flag) : Known m K ⊢ cellInv ER (sched m) (K (c, k)) (cell c k) := by
  unfold Known; iintro ⟨H, -, -⟩
  have h : (bigSep Finset.univ fun ck : Dev nD × Flag => (cellInv ER (sched m) (K ck) (cell ck.1 ck.2) : sProp 𝕄))
      ⊢ cellInv ER (sched m) (K (c, k)) (cell c k) := bigSep_elim (Finset.mem_univ (c, k))
  iapply h
  iexact H
theorem known_reached (K : Dev nD × Flag → ℕ) (c : Dev nD) (k : Flag) : Known m K ⊢ reached ER (cell c k) 0 := by
  unfold Known; iintro ⟨-, H, -⟩
  have h : (bigSep Finset.univ fun ck : Dev nD × Flag => (reached ER (cell ck.1 ck.2) 0 : sProp 𝕄))
      ⊢ reached ER (cell c k) 0 := bigSep_elim (Finset.mem_univ (c, k))
  iapply h
  iexact H
theorem known_lev (K : Dev nD × Flag → ℕ) : Known m K ⊢ levAts L lv := by
  unfold Known; iintro ⟨-, -, H⟩; iexact H

end Cert.KernelIdeal.Work
-- ==== Proof.Steps.lean ====
module

public import proofs.«01_k».proof.Proof.Protocol

@[expose] public section

set_option maxRecDepth 65536

noncomputable section

/-! # One effect at a time

The rules for a wait, a transfer, a load and a store, put in the protocol's terms. -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Flag → ℕ)

/-- A device's place in the protocol of its semaphore: before the one round; -/
abbrev fresh (c : Dev nD) (k : Flag) : sProp 𝕄 := atPos ER (cell c k) 0 ∅ 0
/-- the right to pay a semaphore; -/
abbrev toPay (c : Dev nD) (k : Flag) : sProp 𝕄 := dutyTok ER (cell c k) 0 none
/-- that it will be paid; -/
abbrev coming (c : Dev nD) (k : Flag) : sProp 𝕄 := cred (tallyAt (cell c k) () (amt k))
/-- that its round is over and its counter is zero. -/
abbrev over (c : Dev nD) (k : Flag) : sProp 𝕄 := semVal (cell c k) 0

/-- What a program does on device `c`. -/
abbrev run (c : Dev nD) (p : Line F) (Q : PUnit → sProp 𝕄) : sProp 𝕄 :=
  wp frame (wpE (defs₀ (F := F)) 𝒱₀ (c : Thread nD τ) none) Set.univ p Q

/-! ## Waits -/

theorem wait_flag (c : Dev nD) (k : Flag) (n : ℕ) (hk : k ≠ .bar) (hu : usedFlag k = true) (hl : lvl k < n + 2)
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (loc k) (amt k) R)
    {kont : PUnit → Line F} {Q : PUnit → sProp 𝕄} :
    iprop(Known m K ∗ Owe c n ∗ fresh c k ∗ coming c k ∗ ((Owe c n ∗ over c k ∗ pay m c k none) -∗ run c (kont ⟨⟩) Q))
      ⊢ run c (.op w kont) Q := by
  unfold Owe
  iintro ⟨#HK, ⟨%W, HO⟩, Hat, Hc, Hk⟩
  ihave #HI := (known_inv m K c k) $$ HK
  ihave #HL := (known_lev m K) $$ HK
  iapply (Rounds.wp_wait_rest_token 𝒱₀ ER (sched m) (c : Thread nD τ) none (κ := K (c, k)) hw (Set.mem_univ _) ()
      (O := due c n) (W := W) (R := 0) (m := 0) (T := ∅)
      (by rw [Nat.zero_add, expect_cell, dutiesOf_one hk hu, Finset.card_singleton, Nat.one_mul])) $$ [HO Hat Hc]
  · isplitr; · iexact HI
    isplitl [Hc]; · iexact Hc
    isplitl [HO]; · iexact HO
    isplitr; · iapply (may_wait c k n hl); iexact HL
    iexact Hat
  iintro ⟨HO, Hat, -, Hpay⟩
  imod (Rounds.cell_close ER (sched m) (Set.mem_univ (K (c, k))) (fun h => h) (R := 0 + 1) (duties_later m (cell c k))) $$ [Hat] with Hz
  · isplitr; · iexact HI
    iexact Hat
  ihave Hp := (Entails.of_eq ((rest_cell m c k).trans (by rw [dutiesOf_one hk hu, bigSep_singleton]))) $$ Hpay
  iapply Hk
  isplitl [HO]; · iexists _; iexact HO
  isplitl [Hz]; · iexact Hz
  iexact Hp

/-- A semaphore that is not used is at zero as it stands. -/
theorem close_unused (c : Dev nD) (k : Flag) (hk : k ≠ .bar) (hu : usedFlag k = false) :
    iprop(Known m K ∗ fresh c k) ⊢ |={Set.univ}=> over c k := by
  iintro ⟨#HK, Hat⟩
  ihave #HI := (known_inv m K c k) $$ HK
  iapply (Rounds.cell_close ER (sched m) (Set.mem_univ (K (c, k))) (fun h => h) (R := 0) (fun r _ => duties_unused m c k hk hu r))
  isplitr; · iexact HI
  iexact Hat

/-! ## Transfers -/

/-- A transfer to another device: it pays the semaphore `kr` there and `ks` here. -/
theorem send_flag (c c' d : Dev nD) (hd : d = c') (ks kr : Flag) (n : ℕ) (hs : ks ≠ .bar) (hus : usedFlag ks = true)
    (hkr : isDue kr = true) (hur : usedFlag kr = true) (ht : turn kr = n) (hc : c' = dest c kr)
    {sp sp' : Space} {sh : Shape} {e : EltTy} {S S' : Memref sig .tc sp sh e} {D D' : Memref sig .tc sp' sh e} {sS sem : SemLoc sig}
    (hS : S' = S) (hD : D' = D)
    (hsS : sS = loc ks) (hsem : sem = loc kr)
    {hsc : D'.view.ref.isScScratch = false} {h₁ : S'.view.WordExact} {h₂ : D'.view.WordExact}
    {h₃ : DmaTarget.Typed sp sem (.remote (Dev.tc d : Thread nD τ) D' sS hsc)}
    (q : PosShare TreeShare) (X : sh.Idx → Elt F e)
    (hN : D.view.amount sem = amt kr) (hNs : amt ks = amt kr)
    (hpay₁ : holds c S q X ⊢ pay m c ks none) (hpay₂ : holds c' D fullShare X ⊢ pay m c' kr none)
    {kont : PUnit → Line F} {Q : PUnit → sProp 𝕄} :
    iprop(Known m K ∗ Owe c n ∗ holds c S q X ∗ held c' D ∗ toPay c ks ∗ toPay c' kr
        ∗ ((Owe c (n + 1) ∗ coming c ks) -∗ run c (kont ⟨⟩) Q))
      ⊢ run c (.op (.enqueueDma S' (.remote (Dev.tc d : Thread nD τ) D' sS hsc) sem h₁ h₂ h₃) kont) Q := by
  replace hd := hd.symm; replace hS := hS.symm; replace hD := hD.symm
  subst hsS hsem ht hd hS hD
  have hb : kr ≠ .bar := fun h => by subst h; cases hkr
  unfold Owe held
  iintro ⟨#HK, ⟨%W, HO⟩, HS, ⟨%Y, HD⟩, Ht1, Ht2, Hk⟩
  ihave #HI := (known_inv m K c ks) $$ HK
  ihave #HI' := (known_inv m K c' kr) $$ HK
  ihave #HR := (known_reached m K c ks) $$ HK
  ihave #HR' := (known_reached m K c' kr) $$ HK
  ihave HS' := (show holds c S q X ⊢ iprop(∃ f, ⌜S.view.read (Elt F) f = X⌝ ∗ (S.view.loc (c : Thread nD τ) ↦[S.view.set]{q} f)) from .rfl) $$ HS
  icases HS' with ⟨%fs, %hfs, HS⟩
  ihave HD' := (show holds c' D fullShare Y ⊢ iprop(∃ f, ⌜D.view.read (Elt F) f = Y⌝ ∗ (D.view.loc (c' : Thread nD τ) ↦[D.view.set]{fullShare} f)) from .rfl) $$ HD
  icases HD' with ⟨%fd, %hfd, HD⟩
  iapply (Rounds.wp_send_pointsTo 𝒱₀ ER (sched m) (c : Thread nD τ) none (κ₁ := K (c, ks)) (κ₂ := K (c', kr))
      (r₁ := 0) (r₂ := 0) (d₁ := none) (d₂ := none) (fs := fs) (fd := fd)
      (by rw [duties_cell, dutiesOf_one hs hus]; exact Finset.mem_singleton_self _)
      (by rw [duties_cell, dutiesOf_one hb hur]; exact Finset.mem_singleton_self _)
      () () (amt kr) hN ((amount_cell m c ks none).trans hNs) (amount_cell m c' kr none) (O₀ := due c (turn kr)) (due c (turn kr + 1))
      (by rw [hc]; exact due_pay c kr hkr) (W := W)
      (by rw [payload_cell]; subst hfs; exact (owns_intro (c : Thread nD τ) S q fs).trans hpay₁)
      (by
        rw [payload_cell]
        refine (owns_intro (c' : Thread nD τ) D fullShare _).trans ?_
        rw [View.read_write_univ, hfs]; exact hpay₂)) $$ [HS HD HO Ht1 Ht2]
  · isplitr; · iexact HI
    isplitr; · iexact HI'
    isplitl [HS]; · iexact HS
    isplitl [HD]; · iexact HD
    isplitl [HO]; · iexact HO
    isplitl [Ht1]; · iexact Ht1
    isplitr; · iexact HR
    isplitl [Ht2]; · iexact Ht2
    iexact HR'
  iintro ⟨Hc, HO⟩
  iapply Hk
  isplitl [HO]; · iexists W; iexact HO
  rw [← hNs]; iexact Hc

/-- A transfer on the device itself. -/
theorem copy_flag (c : Dev nD) (k : Flag) (hk : k ≠ .bar) (hu : usedFlag k = true)
    {sp sp' : Space} {sh : Shape} {e : EltTy} {S S' : Memref sig .tc sp sh e} {D D' : Memref sig .tc sp' sh e} {sem : SemLoc sig}
    (hS : S' = S) (hD : D' = D) (hsem : sem = loc k)
    {h₁ : S'.view.WordExact} {h₂ : D'.view.WordExact} {h₃ : DmaTarget.Typed (nD := nD) (τ := τ) (p := .tc) sp sem (.here D')}
    (q : PosShare TreeShare) (X : sh.Idx → Elt F e) (hN : D.view.amount sem = amt k)
    (hpay : iprop(holds c D fullShare X ∗ holds c S q X) ⊢ pay m c k none)
    {kont : PUnit → Line F} {Q : PUnit → sProp 𝕄} :
    iprop(Known m K ∗ holds c S q X ∗ held c D ∗ toPay c k ∗ (coming c k -∗ run c (kont ⟨⟩) Q))
      ⊢ run c (.op (.enqueueDma S' (.here D') sem h₁ h₂ h₃) kont) Q := by
  replace hS := hS.symm; replace hD := hD.symm
  subst hsem hS hD
  unfold held
  iintro ⟨#HK, HS, ⟨%Y, HD⟩, Ht, Hk⟩
  ihave #HI := (known_inv m K c k) $$ HK
  ihave #HR := (known_reached m K c k) $$ HK
  ihave HS' := (show holds c S q X ⊢ iprop(∃ f, ⌜S.view.read (Elt F) f = X⌝ ∗ (S.view.loc (c : Thread nD τ) ↦[S.view.set]{q} f)) from .rfl) $$ HS
  icases HS' with ⟨%fs, %hfs, HS⟩
  ihave HD' := (show holds c D fullShare Y ⊢ iprop(∃ f, ⌜D.view.read (Elt F) f = Y⌝ ∗ (D.view.loc (c : Thread nD τ) ↦[D.view.set]{fullShare} f)) from .rfl) $$ HD
  icases HD' with ⟨%fd, %hfd, HD⟩
  iapply (Rounds.wp_copy_pointsTo 𝒱₀ ER (sched m) (c : Thread nD τ) none (κ := K (c, k)) (r := 0) (d := none) (fs := fs) (fd := fd) (q := q)
      (by rw [duties_cell, dutiesOf_one hk hu]; exact Finset.mem_singleton_self _)
      () (amt k) hN (amount_cell m c k none)
      (by
        rw [payload_cell]
        have hD := owns_intro (Ix := Unit) (Name := ℕ) (U := UU) (Lvl := ℕ) (c : Thread nD τ) D fullShare
          (D.view.write (Elt F) fd (S.view.read (Elt F) fs) Finset.univ)
        rw [View.read_write_univ, hfs] at hD
        have hS := owns_intro (Ix := Unit) (Name := ℕ) (U := UU) (Lvl := ℕ) (c : Thread nD τ) S q fs
        rw [hfs] at hS
        rw [hfs]
        iintro ⟨H1, H2⟩
        iapply hpay
        isplitl [H1]
        · iapply hD; iexact H1
        · iapply hS; iexact H2)) $$ [HS HD Ht]
  · isplitr; · iexact HI
    isplitl [HS]; · iexact HS
    isplitl [HD]; · iexact HD
    isplitl [Ht]; · iexact Ht
    iexact HR
  iexact Hk

/-! ## Loads and stores -/

/-- A load from a memref held gives what it is held at. -/
theorem load_holds (c : Dev nD) {cs : CoreSpace} {s : Shape} {e : EltTy} (M : Memref sig .tc cs s e) (q : PosShare TreeShare)
    (X : s.Idx → Elt F e) {r : LoadRect s} {hl : M.view.LoadsAt r} {kont : (r.shape.Idx → Elt F e) → Line F} {Q : PUnit → sProp 𝕄} :
    iprop(holds c M q X ∗ (holds c M q X -∗ run c (kont fun x => X (r.idx x)) Q))
      ⊢ run c (.op (.load M r hl) kont) Q := by
  iintro ⟨HM, Hk⟩
  ihave HM' := (show holds c M q X ⊢ iprop(∃ f, ⌜M.view.read (Elt F) f = X⌝ ∗ (M.view.loc (c : Thread nD τ) ↦[M.view.set]{q} f)) from .rfl) $$ HM
  icases HM' with ⟨%f, %hf, HM⟩
  iapply (wp_load 𝒱₀ (c : Thread nD τ) none Set.univ (m := M) (r := r) (S := M.view.set) (Finset.map_subset_map.mpr (Finset.subset_univ _))) $$ HM
  iintro HM
  have h : M.view.readAt (Elt F) r f = fun x => X (r.idx x) := by subst hf; rfl
  rw [h]
  iapply Hk
  subst hf
  iapply (owns_intro (c : Thread nD τ) M q f); iexact HM

/-- What a slot reads of its array's contents, from what a load at the slot's rectangle gives. -/
theorem slot_read (M : Memref sig .tc .vmem S8x1024x128 .f32) (s : Fin 8) (f : M.view.ty.Contents (Elt F)) :
    (slot M s).view.read (Elt F) f
      = shapeCast S1024x128 (M.view.readAt (Elt F) (slotRect s).toLoadRect f) Facts₀.shapeCasts_S1x1024x128_S1024x128 := rfl

theorem slot_set (M : Memref sig .tc .vmem S8x1024x128 .f32) (s : Fin 8) :
    (slot M s).view.set = (M.access (slotRect s)).set := by
  show View.set (View.reshape _ _ _) = _; rw [View.set_reshape]

/-- A load of a slot held. -/
theorem load_slot (c : Dev nD) (M : Memref sig .tc .vmem S8x1024x128 .f32) (s : Fin 8) (q : PosShare TreeShare) (Y : Chunk F)
    {hl : M.view.LoadsAt (slotRect s).toLoadRect} {kont : ((slotRect s).toLoadRect.shape.Idx → Elt F .f32) → Line F} {Q : PUnit → sProp 𝕄} :
    iprop(holds c (slot M s) q Y ∗ (∀ v : (slotRect s).toLoadRect.shape.Idx → Elt F .f32,
        ⌜shapeCast S1024x128 v Facts₀.shapeCasts_S1x1024x128_S1024x128 = Y⌝ -∗ holds c (slot M s) q Y -∗ run c (kont v) Q))
      ⊢ run c (.op (.load M (slotRect s).toLoadRect hl) kont) Q := by
  iintro ⟨HM, Hk⟩
  ihave HM' := (show holds c (slot M s) q Y ⊢ iprop(∃ f, ⌜(slot M s).view.read (Elt F) f = Y⌝
    ∗ ((slot M s).view.loc (c : Thread nD τ) ↦[(slot M s).view.set]{q} f)) from .rfl) $$ HM
  icases HM' with ⟨%f, %hf, HM⟩
  iapply (wp_load_rect 𝒱₀ (c : Thread nD τ) none Set.univ (m := M) (r := slotRect s) (S := (slot M s).view.set)
    (by rw [slot_set])) $$ HM
  iintro HM
  ispecialize Hk $$ %((M.access (slotRect s)).read (Elt F) f)
  iapply Hk
  · ipureintro; exact hf
  subst hf
  iapply (owns_intro (c : Thread nD τ) (slot M s) q f); iexact HM

/-- A chunk stored in a slot held. -/
theorem store_slot (c : Dev nD) (M : Memref sig .tc .vmem S8x1024x128 .f32) (s : Fin 8) (Y : Chunk F)
    {w : (slotRect s).shape.Idx → Elt F .f32} (hw : w = shapeCast S1x1024x128 Y Facts₀.shapeCasts_S1024x128_S1x1024x128)
    {hx : (M.access (slotRect s)).Stores Finset.univ} {hm : (Finset.univ : Finset (slotRect s).shape.Idx) = Finset.univ ∨ ∀ a, (slotRect s).stride a = 1}
    {kont : PUnit → Line F} {Q : PUnit → sProp 𝕄} :
    iprop(held c (slot M s) ∗ (holds c (slot M s) fullShare Y -∗ run c (kont ⟨⟩) Q))
      ⊢ run c (.op (.store M (slotRect s) w Finset.univ hx hm) kont) Q := by
  subst hw
  unfold held
  iintro ⟨⟨%Z, HM⟩, Hk⟩
  ihave HM' := (show holds c (slot M s) fullShare Z ⊢ iprop(∃ f, ⌜(slot M s).view.read (Elt F) f = Z⌝
    ∗ ((slot M s).view.loc (c : Thread nD τ) ↦[(slot M s).view.set]{fullShare} f)) from .rfl) $$ HM
  icases HM' with ⟨%f, %hf, HM⟩
  iapply (wp_store 𝒱₀ (c : Thread nD τ) none Set.univ (m := M) (r := slotRect s) (Mk := Finset.univ) (S := (slot M s).view.set)
    (by rw [slot_set]; exact Finset.Subset.refl _)) $$ HM
  iintro HM
  iapply Hk
  have h := owns_intro (Ix := Unit) (Name := ℕ) (U := UU) (Lvl := ℕ) (c : Thread nD τ) (slot M s) fullShare
    ((M.access (slotRect s)).write (Elt F) f (shapeCast S1x1024x128 Y Facts₀.shapeCasts_S1024x128_S1x1024x128) Finset.univ)
  have hr : (slot M s).view.read (Elt F)
      ((M.access (slotRect s)).write (Elt F) f (shapeCast S1x1024x128 Y Facts₀.shapeCasts_S1024x128_S1x1024x128) Finset.univ) = Y := by
    rw [slot_read]
    have h2 : M.view.readAt (Elt F) (slotRect s).toLoadRect
        ((M.access (slotRect s)).write (Elt F) f (shapeCast S1x1024x128 Y Facts₀.shapeCasts_S1024x128_S1x1024x128) Finset.univ)
        = shapeCast S1x1024x128 Y Facts₀.shapeCasts_S1024x128_S1x1024x128 :=
      View.read_write_univ (v := M.access (slotRect s)) (Val := Elt F) f _
    rw [h2]
    exact shapeCast_shapeCast Y _ _
  rw [hr] at h
  iapply h; iexact HM

end Cert.KernelIdeal.Work
-- ==== Proof.Stages.lean ====
module

public import proofs.«01_k».proof.Proof.Steps

@[expose] public section

set_option maxRecDepth 65536

noncomputable section

/-! # The stages

What each stage of the body needs of a device and what it leaves it with. -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Flag → ℕ)

/-! ## Making a chunk -/

omit [FloatOps F] in
theorem block_read (X : XBlock F) :
    (fun x => X ((Rect.unit (s := S2048x1024) ![0, 0] S2048x1024.size Facts₀.inb_S2048x1024_S2048x1024_0_0).toLoadRect.idx x)) = X :=
  Memref.readAt_unit_zero (Elt F) cc0_scratch0 (funext fun a => by fin_cases a <;> rfl) _ X

theorem make_spec (c : Dev nD) (X : Memref sig .tc .vmem S2048x1024 .f32) (M : Memref sig .tc .vmem S8x1024x128 .f32) (s : Fin 8)
    (A D : XBlock F) {k : Line F} {Q : PUnit → sProp 𝕄} :
    iprop(holds c X fullShare A ∗ holds c dyb fullShare D ∗ held c (slot M s)
        ∗ ((holds c X fullShare A ∗ holds c dyb fullShare D ∗ holds c (slot M s) fullShare (chunkOf A (colsOf s D))) -∗ run c k Q))
      ⊢ run c (make X M s k) Q := by
  unfold make
  iintro ⟨HX, HD, HM, Hk⟩
  iapply (load_holds c X fullShare A)
  isplitl [HX]; · iexact HX
  iintro HX
  rw [block_read]
  iapply (load_holds c dyb fullShare D)
  isplitl [HD]; · iexact HD
  iintro HD
  ihave HM' := (show held c (slot M s) ⊢ iprop(∃ Y, holds c (slot M s) fullShare Y) from .rfl) $$ HM
  icases HM' with ⟨%Y, HM⟩
  iapply (load_slot c M s fullShare Y)
  isplitl [HM]; · iexact HM
  iintro %v %hv HM
  iapply (store_slot c M s (chunkOf A (colsOf s D)) (by rfl))
  isplitl [HM]
  · unfold held; iexists Y; iexact HM
  iintro HM
  iapply Hk
  isplitl [HX]; · iexact HX
  isplitl [HD]; · iexact HD
  iexact HM

/-- The three fetched blocks. -/
def Blocks (c : Dev nD) : sProp 𝕄 :=
  iprop(holds c xob fullShare (xoV m c) ∗ holds c xmb fullShare (xmV m c) ∗ holds c dyb fullShare (dyV m c))

theorem compute_spec (c : Dev nD) (s : Fin 8) (n : ℕ) (hn : turn (.per s .xr) = n) {k : Line F} {Q : PUnit → sProp 𝕄} :
    iprop(Known m K ∗ Owe c n ∗ Blocks m c ∗ held c (slot po s) ∗ held c (slot pm s) ∗ held (oth c) (slot xr s)
        ∗ toPay c (.per s .xs) ∗ toPay (oth c) (.per s .xr)
        ∗ ((Owe c (n + 1) ∗ Blocks m c ∗ coming c (.per s .xs) ∗ holds c (slot pm s) fullShare (pmV m c s)) -∗ run c k Q))
      ⊢ run c (compute c s k) Q := by
  unfold compute Blocks
  iintro ⟨#HK, HO, ⟨HA, HB, HD⟩, Hpo, Hpm, Hxr, Ht1, Ht2, Hk⟩
  iapply (make_spec c xob po s (xoV m c) (dyV m c))
  isplitl [HA]; · iexact HA
  isplitl [HD]; · iexact HD
  isplitl [Hpo]; · iexact Hpo
  iintro ⟨HA, HD, Hpo⟩
  unfold ship
  iapply (send_flag m K c (oth c) (otherDev c) (otherDev_eq c) (.per s .xs) (.per s .xr) n (fun h => Flag.noConfusion h) rfl rfl rfl hn rfl
    (S := slot po s) (D := slot xr s) rfl rfl rfl rfl fullShare (poV m c s) rfl rfl
    (by show _ ⊢ held c (slot po s); unfold held; iintro H; iexists _; iexact H)
    (by show _ ⊢ holds (oth c) (slot xr s) fullShare (poV m (oth (oth c)) s); rw [oth_oth]))
  isplitr; · iexact HK
  isplitl [HO]; · iexact HO
  isplitl [Hpo]; · iexact Hpo
  isplitl [Hxr]; · iexact Hxr
  isplitl [Ht1]; · iexact Ht1
  isplitl [Ht2]; · iexact Ht2
  iintro ⟨HO, Hc⟩
  iapply (make_spec c xmb pm s (xmV m c) (dyV m c))
  isplitl [HB]; · iexact HB
  isplitl [HD]; · iexact HD
  isplitl [Hpm]; · iexact Hpm
  iintro ⟨HB, HD, Hpm⟩
  iapply Hk
  isplitl [HO]; · iexact HO
  isplitl [HA HB HD]
  · isplitl [HA]; · iexact HA
    isplitl [HB]; · iexact HB
    iexact HD
  isplitl [Hc]; · iexact Hc
  iexact Hpm

/-! ## Adding up -/

/-- A wait for one of a chunk's semaphores. -/
theorem wait_per (c : Dev nD) (s : Fin 8) (p : Per) (n : ℕ) (hu : usedFlag (.per s p) = true) (hl : lvl (.per s p) < n + 2)
    {sp sp' : Space} {sh sh' : Shape} {e e' : EltTy} {sem : DmaSem sig} {S : Memref sig .tc sp' sh' e'} (D : Memref sig .tc sp sh e)
    {hS : S.view.WordExact} {hD : D.view.WordExact} (hsem : SemLoc.dma sem = loc (.per s p)) (hN : D.view.dmaCredit = chunkN)
    {P : sProp 𝕄} (hP : perPay m c s p ⊢ P) {kont : PUnit → Line F} {Q : PUnit → sProp 𝕄} :
    iprop(Known m K ∗ Owe c n ∗ fresh c (.per s p) ∗ coming c (.per s p)
        ∗ ((Owe c n ∗ over c (.per s p) ∗ P) -∗ run c (kont ⟨⟩) Q))
      ⊢ run c (.op (.waitDma2 sem S D hS hD) kont) Q := by
  iintro ⟨#HK, HO, Hf, Hc, Hk⟩
  iapply (wait_flag m K c (.per s p) n (fun h => Flag.noConfusion h) hu hl (w := .waitDma2 sem S D hS hD)
    (fun R => by rw [wpE_waitDma2_eq, hsem, hN]; rfl))
  isplitr; · iexact HK
  isplitl [HO]; · iexact HO
  isplitl [Hf]; · iexact Hf
  isplitl [Hc]; · iexact Hc
  iintro ⟨HO, Hz, Hp⟩
  iapply Hk
  isplitl [HO]; · iexact HO
  isplitl [Hz]; · iexact Hz
  iapply (show pay m c (.per s p) none ⊢ P from hP)
  iexact Hp

theorem addUp_spec (c : Dev nD) (s : Fin 8) (n : ℕ) (hn : lvl (.per s .xr) < n + 2) {k : Line F} {Q : PUnit → sProp 𝕄} :
    iprop(Known m K ∗ Owe c n ∗ fresh c (.per s .xs) ∗ coming c (.per s .xs) ∗ fresh c (.per s .xr) ∗ coming c (.per s .xr)
        ∗ holds c (slot pm s) fullShare (pmV m c s)
        ∗ ((Owe c n ∗ over c (.per s .xs) ∗ over c (.per s .xr) ∗ held c (slot po s) ∗ held c (slot xr s)
            ∗ holds c (slot pm s) fullShare (resV m c s)) -∗ run c k Q))
      ⊢ run c (addUp s k) Q := by
  unfold addUp
  iintro ⟨#HK, HO, Hf1, Hc1, Hf2, Hc2, Hpm, Hk⟩
  iapply (wait_per m K c s .xs n rfl (Nat.succ_pos _) (slot po s) rfl rfl (P := held c (slot po s)) (by exact Entails.rfl))
  isplitr; · iexact HK
  isplitl [HO]; · iexact HO
  isplitl [Hf1]; · iexact Hf1
  isplitl [Hc1]; · iexact Hc1
  iintro ⟨HO, Hz1, Hpo⟩
  iapply (wait_per m K c s .xr n rfl hn (slot xr s) rfl rfl (P := holds c (slot xr s) fullShare (poV m (oth c) s)) (by exact Entails.rfl))
  isplitr; · iexact HK
  isplitl [HO]; · iexact HO
  isplitl [Hf2]; · iexact Hf2
  isplitl [Hc2]; · iexact Hc2
  iintro ⟨HO, Hz2, Hxr⟩
  iapply (load_slot c pm s fullShare (pmV m c s))
  isplitl [Hpm]; · iexact Hpm
  iintro %v %hv Hpm
  iapply (load_slot c xr s fullShare (poV m (oth c) s))
  isplitl [Hxr]; · iexact Hxr
  iintro %w %hw Hxr
  iapply (load_slot c pm s fullShare (pmV m c s))
  isplitl [Hpm]; · iexact Hpm
  iintro %v' %hv' Hpm
  iapply (store_slot c pm s (resV m c s) (by unfold resV; rw [← hv, ← hw]))
  isplitl [Hpm]
  · unfold held; iexists _; iexact Hpm
  iintro Hpm
  iapply Hk
  isplitl [HO]; · iexact HO
  isplitl [Hz1]; · iexact Hz1
  isplitl [Hz2]; · iexact Hz2
  isplitl [Hpo]; · iexact Hpo
  isplitl [Hxr]
  · unfold held; iexists _; iexact Hxr
  iexact Hpm

/-! ## Round the ring -/

/-- Before a hop: both its semaphores as at the start, the right to pay them, and the place it will write to; -/
def hopFresh (c : Dev nD) (b : Bool) (h : Fin 4) (s : Fin 8) : sProp 𝕄 :=
  iprop(fresh c (.per s (.snd b h)) ∗ fresh c (.per s (.rcv b h)) ∗ coming c (.per s (.rcv b h))
    ∗ toPay c (.per s (.snd b h)) ∗ toPay (nb b c) (.per s (.rcv b h)) ∗ held (nb b c) (blk (src b (place c) h) s))
/-- under way; -/
def hopGoing (c : Dev nD) (b : Bool) (h : Fin 4) (s : Fin 8) : sProp 𝕄 :=
  iprop(fresh c (.per s (.snd b h)) ∗ coming c (.per s (.snd b h)) ∗ fresh c (.per s (.rcv b h)) ∗ coming c (.per s (.rcv b h)))
/-- done; -/
def hopOver (c : Dev nD) (b : Bool) (h : Fin 4) (s : Fin 8) : sProp 𝕄 :=
  iprop(over c (.per s (.snd b h)) ∗ over c (.per s (.rcv b h)))
/-- never made. -/
def hopIdle (c : Dev nD) (b : Bool) (h : Fin 4) (s : Fin 8) : sProp 𝕄 :=
  iprop(fresh c (.per s (.snd b h)) ∗ fresh c (.per s (.rcv b h)))

/-- The chunk `s` of the result that a device holds, made by place `o`. -/
abbrev done (c : Dev nD) (o s : Fin 8) : sProp 𝕄 := holds c (blk o s) fullShare (rowV m c o s)

/-- What arrives is what was sent. -/
theorem rcv_pay (c : Dev nD) (b : Bool) (h : Fin 4) (s : Fin 8) :
    holds (nb b c) (blk (src b (place c) h) s) fullShare (rowV m c (src b (place c) h) s) ⊢ pay m (nb b c) (.per s (.rcv b h)) none := by
  show _ ⊢ done m (nb b c) (got b (place (nb b c)) h) s
  unfold done
  rw [got_nb, rowV_nb]

theorem launchHop_spec (c : Dev nD) (b : Bool) (s : Fin 8) (n : ℕ) (hn : turn (.per s (.rcv b 0)) = n) {k : Line F} {Q : PUnit → sProp 𝕄} :
    iprop(Known m K ∗ Owe c n ∗ hopFresh c b 0 s ∗ holds c (slot pm s) (hopShare b) (resV m c s)
        ∗ ((Owe c (n + 1) ∗ hopGoing c b 0 s) -∗ run c k Q))
      ⊢ run c (launchHop c b s k) Q := by
  unfold launchHop hopFresh hopGoing
  iintro ⟨#HK, HO, ⟨Hf1, Hf2, Hc2, Ht1, Ht2, Hd⟩, Hpm, Hk⟩
  iapply (send_flag m K c (nb b c) (nextDev c b) (nextDev_eq c b) (.per s (.snd b 0)) (.per s (.rcv b 0)) n (by simp) (by rfl) (by rfl) (by rfl) hn rfl
    (S := slot pm s) (D := blk (src b (place c) 0) s) rfl (by rw [src_zero]; exact ownPiece_eq c s) (by cases b <;> rfl) (by cases b <;> rfl)
    (hopShare b) (resV m c s) (by cases b <;> rfl) rfl (by exact Entails.rfl)
    (by
      have h := rcv_pay m c b 0 s
      rw [show rowV m c (src b (place c) 0) s = resV m c s by rw [src_zero, rowV_self]] at h
      exact h))
  isplitr; · iexact HK
  isplitl [HO]; · iexact HO
  isplitl [Hpm]; · iexact Hpm
  isplitl [Hd]; · iexact Hd
  isplitl [Ht1]; · iexact Ht1
  isplitl [Ht2]; · iexact Ht2
  iintro ⟨HO, Hc1⟩
  iapply Hk
  isplitl [HO]; · iexact HO
  isplitl [Hf1]; · iexact Hf1
  isplitl [Hc1]; · iexact Hc1
  isplitl [Hf2] <;> iassumption

theorem relay_spec (c : Dev nD) (b : Bool) (h : Fin 4) (s : Fin 8) (n : ℕ) (h0 : h ≠ 0) (hu : used b h s = true)
    (hn : turn (.per s (.rcv b h)) = n) {k : Line F} {Q : PUnit → sProp 𝕄} :
    iprop(Known m K ∗ Owe c n ∗ hopFresh c b h s ∗ done m c (src b (place c) h) s
        ∗ ((Owe c (n + 1) ∗ hopGoing c b h s) -∗ run c k Q))
      ⊢ run c (relay c b h s k) Q := by
  unfold relay hopFresh hopGoing
  iintro ⟨#HK, HO, ⟨Hf1, Hf2, Hc2, Ht1, Ht2, Hd⟩, Hs, Hk⟩
  iapply (send_flag m K c (nb b c) (nextDev c b) (nextDev_eq c b) (.per s (.snd b h)) (.per s (.rcv b h)) n (by simp) hu hu hu hn rfl
    (S := blk (src b (place c) h) s) (D := blk (src b (place c) h) s) (relayPiece_eq c b h s h0 hu) (relayPiece_eq c b h s h0 hu)
    (by cases b <;> rfl) (by cases b <;> rfl)
    fullShare (rowV m c (src b (place c) h) s) (by cases b <;> rfl) rfl
    (by show _ ⊢ perPay m c s (.snd b h); unfold perPay; simp only []; rw [if_neg h0])
    (rcv_pay m c b h s))
  isplitr; · iexact HK
  isplitl [HO]; · iexact HO
  isplitl [Hs]; · iexact Hs
  isplitl [Hd]; · iexact Hd
  isplitl [Ht1]; · iexact Ht1
  isplitl [Ht2]; · iexact Ht2
  iintro ⟨HO, Hc1⟩
  iapply Hk
  isplitl [HO]; · iexact HO
  isplitl [Hf1]; · iexact Hf1
  isplitl [Hc1]; · iexact Hc1
  isplitl [Hf2] <;> iassumption

/-- The two waits of a hop, whatever parts of the result and of the array of chunks they name. -/
theorem await_two (c : Dev nD) (b : Bool) (h : Fin 4) (s : Fin 8) (n : ℕ) (hu : used b h s = true) (hl : lvl (.per s (.rcv b h)) < n + 2)
    {w₁ w₂ : TpuEff nD τ sig (Elt F) Λ₀ .tc PUnit}
    (hw₁ : ∀ R : PUnit → sProp 𝕄, wpE (defs₀ (F := F)) 𝒱₀ (c : Thread nD τ) none Set.univ w₁ R
      = waitSpec (c : Thread nD τ) Set.univ (loc (.per s (.snd b h))) chunkN R)
    (hw₂ : ∀ R : PUnit → sProp 𝕄, wpE (defs₀ (F := F)) 𝒱₀ (c : Thread nD τ) none Set.univ w₂ R
      = waitSpec (c : Thread nD τ) Set.univ (loc (.per s (.rcv b h))) chunkN R)
    {k : Line F} {Q : PUnit → sProp 𝕄} :
    iprop(Known m K ∗ Owe c n ∗ hopGoing c b h s
        ∗ ((Owe c n ∗ hopOver c b h s ∗ perPay m c s (.snd b h) ∗ done m c (got b (place c) h) s) -∗ run c k Q))
      ⊢ run c (.op w₁ fun _ => .op w₂ fun _ => k) Q := by
  unfold hopGoing hopOver
  iintro ⟨#HK, HO, ⟨Hf1, Hc1, Hf2, Hc2⟩, Hk⟩
  iapply (wait_flag m K c (.per s (.snd b h)) n (by simp) hu (Nat.succ_pos _) hw₁)
  isplitr; · iexact HK
  isplitl [HO]; · iexact HO
  isplitl [Hf1]; · iexact Hf1
  isplitl [Hc1]; · iexact Hc1
  iintro ⟨HO, Hz1, Hp1⟩
  iapply (wait_flag m K c (.per s (.rcv b h)) n (by simp) hu hl hw₂)
  isplitr; · iexact HK
  isplitl [HO]; · iexact HO
  isplitl [Hf2]; · iexact Hf2
  isplitl [Hc2]; · iexact Hc2
  iintro ⟨HO, Hz2, Hp2⟩
  iapply Hk
  isplitl [HO]; · iexact HO
  isplitl [Hz1 Hz2]
  · isplitl [Hz1] <;> iassumption
  isplitl [Hp1]; · iapply (show pay m c (.per s (.snd b h)) none ⊢ perPay m c s (.snd b h) from .rfl); iexact Hp1
  iapply (show pay m c (.per s (.rcv b h)) none ⊢ done m c (got b (place c) h) s from .rfl)
  iexact Hp2

theorem awaitFirst_spec (c : Dev nD) (b : Bool) (s : Fin 8) (n : ℕ) (hl : lvl (.per s (.rcv b 0)) < n + 2) {k : Line F} {Q : PUnit → sProp 𝕄} :
    iprop(Known m K ∗ Owe c n ∗ hopGoing c b 0 s
        ∗ ((Owe c n ∗ hopOver c b 0 s ∗ holds c (slot pm s) (hopShare b) (resV m c s) ∗ done m c (got b (place c) 0) s) -∗ run c k Q))
      ⊢ run c (awaitFirst c b s k) Q := by
  unfold awaitFirst
  exact await_two m K c b 0 s n rfl hl (by cases b <;> exact wpE_waitDma2_eq 𝒱₀ (c : Thread nD τ) none Set.univ)
    (by cases b <;> exact wpE_waitDma2_eq 𝒱₀ (c : Thread nD τ) none Set.univ)

theorem awaitRelay_spec (c : Dev nD) (b : Bool) (h : Fin 4) (s : Fin 8) (n : ℕ) (h0 : h ≠ 0) (hu : used b h s = true)
    (hl : lvl (.per s (.rcv b h)) < n + 2) {k : Line F} {Q : PUnit → sProp 𝕄} :
    iprop(Known m K ∗ Owe c n ∗ hopGoing c b h s
        ∗ ((Owe c n ∗ hopOver c b h s ∗ done m c (src b (place c) h) s ∗ done m c (got b (place c) h) s) -∗ run c k Q))
      ⊢ run c (awaitRelay c b h s k) Q := by
  unfold awaitRelay
  have hp : perPay m c s (.snd b h) = done m c (src b (place c) h) s := if_neg h0
  rw [← hp]
  exact await_two m K c b h s n hu hl (by cases b <;> exact wpE_waitDma2_eq 𝒱₀ (c : Thread nD τ) none Set.univ)
    (by cases b <;> exact wpE_waitDma2_eq 𝒱₀ (c : Thread nD τ) none Set.univ)

/-! ## A chunk's life -/

/-- Something both ways round. -/
abbrev both (P : Bool → sProp 𝕄) : sProp 𝕄 := iprop(P false ∗ P true)

/-- The fourth hop, which a chunk makes one way only. -/
def hopLast (c : Dev nD) (b : Bool) (s : Fin 8) : sProp 𝕄 :=
  if used b 3 s then hopFresh c b 3 s else hopIdle c b 3 s

/-- What the later stages of a chunk need, from the start; -/
def later (c : Dev nD) (s : Fin 8) : sProp 𝕄 :=
  iprop(fresh c (.per s .st) ∗ toPay c (.per s .st) ∗ held c (blk (place c) s)
    ∗ both (fun b => hopFresh c b 0 s) ∗ both (fun b => hopFresh c b 1 s) ∗ both (fun b => hopFresh c b 2 s) ∗ both (fun b => hopLast c b s))

/-- A chunk at the start; -/
def atStart (c : Dev nD) (s : Fin 8) : sProp 𝕄 :=
  iprop(held c (slot po s) ∗ held c (slot pm s) ∗ held (oth c) (slot xr s) ∗ toPay c (.per s .xs) ∗ toPay (oth c) (.per s .xr)
    ∗ fresh c (.per s .xs) ∗ fresh c (.per s .xr) ∗ coming c (.per s .xr) ∗ later c s)

/-- computed and shipped; -/
def atShip (c : Dev nD) (s : Fin 8) : sProp 𝕄 :=
  iprop(fresh c (.per s .xs) ∗ coming c (.per s .xs) ∗ fresh c (.per s .xr) ∗ coming c (.per s .xr)
    ∗ holds c (slot pm s) fullShare (pmV m c s) ∗ later c s)

/-- what it keeps from when it is finished until its store is waited for; -/
def kept (c : Dev nD) (s : Fin 8) : sProp 𝕄 :=
  iprop(over c (.per s .xs) ∗ over c (.per s .xr) ∗ held c (slot po s) ∗ held c (slot xr s) ∗ fresh c (.per s .st) ∗ coming c (.per s .st))

/-- finished; -/
def atHop0 (c : Dev nD) (s : Fin 8) : sProp 𝕄 :=
  iprop(kept c s ∗ both (fun b => hopGoing c b 0 s) ∗ both (fun b => hopFresh c b 1 s) ∗ both (fun b => hopFresh c b 2 s) ∗ both (fun b => hopLast c b s))

/-- what it keeps from the first hop; -/
def kept0 (c : Dev nD) (s : Fin 8) : sProp 𝕄 :=
  iprop(kept c s ∗ both (fun b => hopOver c b 0 s) ∗ both fun b => holds c (slot pm s) (hopShare b) (resV m c s))

def atHop1 (c : Dev nD) (s : Fin 8) : sProp 𝕄 :=
  iprop(kept0 m c s ∗ both (fun b => hopGoing c b 1 s) ∗ both (fun b => hopFresh c b 2 s) ∗ both (fun b => hopLast c b s))

/-- from the second; -/
def kept1 (c : Dev nD) (s : Fin 8) : sProp 𝕄 :=
  iprop(kept0 m c s ∗ both (fun b => hopOver c b 1 s) ∗ both fun b => done m c (src b (place c) 1) s)

def atHop2 (c : Dev nD) (s : Fin 8) : sProp 𝕄 :=
  iprop(kept1 m c s ∗ both (fun b => hopGoing c b 2 s) ∗ both (fun b => hopLast c b s))

/-- from the third; -/
def kept2 (c : Dev nD) (b : Bool) (s : Fin 8) : sProp 𝕄 :=
  iprop(kept1 m c s ∗ both (fun b => hopOver c b 2 s) ∗ both (fun b => done m c (src b (place c) 2) s)
    ∗ hopIdle c (!b) 3 s ∗ done m c (got (!b) (place c) 2) s)

def atHop3 (c : Dev nD) (b : Bool) (s : Fin 8) : sProp 𝕄 := iprop(kept2 m c b s ∗ hopGoing c b 3 s)

/-- all hops made; -/
def atLast (c : Dev nD) (b : Bool) (s : Fin 8) : sProp 𝕄 :=
  iprop(kept2 m c b s ∗ hopOver c b 3 s ∗ done m c (src b (place c) 3) s ∗ done m c (got b (place c) 3) s)

/-- The way a chunk's fourth hop goes. -/
def way (s : Fin 8) : Bool := decide (4 ≤ s.val)

/-- its store waited for too. -/
def atEnd (c : Dev nD) (s : Fin 8) : sProp 𝕄 :=
  iprop((over c (.per s .xs) ∗ over c (.per s .xr) ∗ over c (.per s .st) ∗ both (fun b => hopOver c b 0 s) ∗ both (fun b => hopOver c b 1 s)
      ∗ both (fun b => hopOver c b 2 s) ∗ hopOver c (way s) 3 s ∗ hopIdle c (!way s) 3 s)
    ∗ (held c (slot po s) ∗ held c (slot xr s) ∗ held c (slot pm s))
    ∗ (done m c (place c) s ∗ both (fun b => done m c (src b (place c) 1) s) ∗ both (fun b => done m c (src b (place c) 2) s)
      ∗ done m c (src (way s) (place c) 3) s ∗ done m c (got (!way s) (place c) 2) s ∗ done m c (got (way s) (place c) 3) s))

theorem compute_run (c : Dev nD) (s : Fin 8) (n : ℕ) (hn : turn (.per s .xr) = n) {k : Line F} {Q : PUnit → sProp 𝕄} :
    iprop(Known m K ∗ (Owe c n ∗ Blocks m c) ∗ atStart c s ∗ (((Owe c (n + 1) ∗ Blocks m c) ∗ atShip m c s) -∗ run c k Q))
      ⊢ run c (compute c s k) Q := by
  unfold atStart atShip
  iintro ⟨#HK, ⟨HO, HB⟩, ⟨Hpo, Hpm, Hxr, Ht1, Ht2, Hf1, Hf2, Hc2, Hl⟩, Hk⟩
  iapply (compute_spec m K c s n hn)
  isplitr; · iexact HK
  isplitl [HO]; · iexact HO
  isplitl [HB]; · iexact HB
  isplitl [Hpo]; · iexact Hpo
  isplitl [Hpm]; · iexact Hpm
  isplitl [Hxr]; · iexact Hxr
  isplitl [Ht1]; · iexact Ht1
  isplitl [Ht2]; · iexact Ht2
  iintro ⟨HO, HB, Hc1, Hpm⟩
  iapply Hk
  isplitl [HO HB]
  · isplitl [HO] <;> iassumption
  isplitl [Hf1]; · iexact Hf1
  isplitl [Hc1]; · iexact Hc1
  isplitl [Hf2]; · iexact Hf2
  isplitl [Hc2]; · iexact Hc2
  isplitl [Hpm] <;> iassumption

theorem finish_run (c : Dev nD) (s : Fin 8) (n : ℕ) (hn : 3 * s.val + 2 = n) {k : Line F} {Q : PUnit → sProp 𝕄} :
    iprop(Known m K ∗ Owe c n ∗ atShip m c s ∗ ((Owe c (n + 2) ∗ atHop0 c s) -∗ run c k Q))
      ⊢ run c (finish c s k) Q := by
  subst hn
  unfold atShip atHop0 later kept both finish
  iintro ⟨#HK, HO, ⟨Hf1, Hc1, Hf2, Hc2, Hpm, Hf3, Ht3, Hb, ⟨Hh0, Hh1⟩, Hn1, Hn2, Hn3⟩, Hk⟩
  iapply (addUp_spec m K c s (3 * s.val + 2) (by show 2 + (3 * s.val - 2) < _; omega))
  isplitr; · iexact HK
  isplitl [HO]; · iexact HO
  isplitl [Hf1]; · iexact Hf1
  isplitl [Hc1]; · iexact Hc1
  isplitl [Hf2]; · iexact Hf2
  isplitl [Hc2]; · iexact Hc2
  isplitl [Hpm]; · iexact Hpm
  iintro ⟨HO, Hz1, Hz2, Hpo, Hxr, Hpm⟩
  ihave Hpm' := (owns_halves (c : Thread nD τ) (slot pm s) fullShare (resV m c s)).1 $$ Hpm
  icases Hpm' with ⟨Hps, Hpr⟩
  ihave Hpr' := (owns_halves (c : Thread nD τ) (slot pm s) fullShare.right (resV m c s)).1 $$ Hpr
  icases Hpr' with ⟨Hpf, Hpt⟩
  iapply (copy_flag m K c (.per s .st) (fun h => Flag.noConfusion h) rfl
    (S := slot pm s) (D := blk (place c) s) rfl (ownPiece_eq c s) rfl storeShare (resV m c s) rfl
    (by
      rw [← rowV_self m c s]
      show _ ⊢ iprop(holds c (blk (place c) s) fullShare (rowV m c (place c) s) ∗ holds c (slot pm s) storeShare (resV m c s))
      rw [rowV_self]))
  isplitr; · iexact HK
  isplitl [Hps]; · iexact Hps
  isplitl [Hb]; · iexact Hb
  isplitl [Ht3]; · iexact Ht3
  iintro Hc3
  iapply (launchHop_spec m K c false s (3 * s.val + 2) rfl)
  isplitr; · iexact HK
  isplitl [HO]; · iexact HO
  isplitl [Hh0]; · iexact Hh0
  isplitl [Hpf]; · iexact Hpf
  iintro ⟨HO, Hg0⟩
  iapply (launchHop_spec m K c true s (3 * s.val + 2 + 1) rfl)
  isplitr; · iexact HK
  isplitl [HO]; · iexact HO
  isplitl [Hh1]; · iexact Hh1
  isplitl [Hpt]; · iexact Hpt
  iintro ⟨HO, Hg1⟩
  iapply Hk
  isplitl [HO]; · iexact HO
  isplitl [Hz1 Hz2 Hpo Hxr Hf3 Hc3]
  · isplitl [Hz1]; · iexact Hz1
    isplitl [Hz2]; · iexact Hz2
    isplitl [Hpo]; · iexact Hpo
    isplitl [Hxr]; · iexact Hxr
    isplitl [Hf3] <;> iassumption
  isplitl [Hg0 Hg1]
  · isplitl [Hg0] <;> iassumption
  isplitl [Hn1]; · iexact Hn1
  isplitl [Hn2]; · iexact Hn2
  iexact Hn3

theorem ring1_run (c : Dev nD) (s : Fin 8) (n : ℕ) (hn : 25 + 2 * s.val = n) {k : Line F} {Q : PUnit → sProp 𝕄} :
    iprop(Known m K ∗ Owe c n ∗ atHop0 c s ∗ ((Owe c (n + 2) ∗ atHop1 m c s) -∗ run c k Q))
      ⊢ run c (ring1 c s k) Q := by
  subst hn
  unfold atHop0 atHop1 kept0 both ring1
  iintro ⟨#HK, HO, ⟨Hkept, ⟨Hg0, Hg1⟩, ⟨Hh0, Hh1⟩, Hn2, Hn3⟩, Hk⟩
  iapply (awaitFirst_spec m K c false s (25 + 2 * s.val) (by show 2 + (3 * s.val + 2 + 0) < _; omega))
  isplitr; · iexact HK
  isplitl [HO]; · iexact HO
  isplitl [Hg0]; · iexact Hg0
  iintro ⟨HO, Ho0, Hp0, Hr0⟩
  iapply (awaitFirst_spec m K c true s (25 + 2 * s.val) (by show 2 + (3 * s.val + 2 + 1) < _; omega))
  isplitr; · iexact HK
  isplitl [HO]; · iexact HO
  isplitl [Hg1]; · iexact Hg1
  iintro ⟨HO, Ho1, Hp1, Hr1⟩
  iapply (relay_spec m K c false 1 s (25 + 2 * s.val) (by decide) rfl rfl)
  isplitr; · iexact HK
  isplitl [HO]; · iexact HO
  isplitl [Hh0]; · iexact Hh0
  isplitl [Hr0]; · rw [src_one]; iexact Hr0
  iintro ⟨HO, Hg0⟩
  iapply (relay_spec m K c true 1 s (25 + 2 * s.val + 1) (by decide) rfl rfl)
  isplitr; · iexact HK
  isplitl [HO]; · iexact HO
  isplitl [Hh1]; · iexact Hh1
  isplitl [Hr1]; · rw [src_one]; iexact Hr1
  iintro ⟨HO, Hg1⟩
  iapply Hk
  isplitl [HO]; · iexact HO
  isplitl [Hkept Ho0 Ho1 Hp0 Hp1]
  · isplitl [Hkept]; · iexact Hkept
    isplitl [Ho0 Ho1]
    · isplitl [Ho0] <;> iassumption
    isplitl [Hp0] <;> iassumption
  isplitl [Hg0 Hg1]
  · isplitl [Hg0] <;> iassumption
  isplitl [Hn2] <;> iassumption

theorem ring2_run (c : Dev nD) (s : Fin 8) (n : ℕ) (hn : 41 + 2 * s.val = n) {k : Line F} {Q : PUnit → sProp 𝕄} :
    iprop(Known m K ∗ Owe c n ∗ atHop1 m c s ∗ ((Owe c (n + 2) ∗ atHop2 m c s) -∗ run c k Q))
      ⊢ run c (ring2 c s k) Q := by
  subst hn
  unfold atHop1 atHop2 kept1 both ring2
  iintro ⟨#HK, HO, ⟨Hkept, ⟨Hg0, Hg1⟩, ⟨Hh0, Hh1⟩, Hn3⟩, Hk⟩
  iapply (awaitRelay_spec m K c false 1 s (41 + 2 * s.val) (by decide) rfl (by show 2 + (25 + 2 * s.val + 0) < _; omega))
  isplitr; · iexact HK
  isplitl [HO]; · iexact HO
  isplitl [Hg0]; · iexact Hg0
  iintro ⟨HO, Ho0, Hp0, Hr0⟩
  iapply (awaitRelay_spec m K c true 1 s (41 + 2 * s.val) (by decide) rfl (by show 2 + (25 + 2 * s.val + 1) < _; omega))
  isplitr; · iexact HK
  isplitl [HO]; · iexact HO
  isplitl [Hg1]; · iexact Hg1
  iintro ⟨HO, Ho1, Hp1, Hr1⟩
  iapply (relay_spec m K c false 2 s (41 + 2 * s.val) (by decide) rfl rfl)
  isplitr; · iexact HK
  isplitl [HO]; · iexact HO
  isplitl [Hh0]; · iexact Hh0
  isplitl [Hr0]; · rw [src_two]; iexact Hr0
  iintro ⟨HO, Hg0⟩
  iapply (relay_spec m K c true 2 s (41 + 2 * s.val + 1) (by decide) rfl rfl)
  isplitr; · iexact HK
  isplitl [HO]; · iexact HO
  isplitl [Hh1]; · iexact Hh1
  isplitl [Hr1]; · rw [src_two]; iexact Hr1
  iintro ⟨HO, Hg1⟩
  iapply Hk
  isplitl [HO]; · iexact HO
  isplitl [Hkept Ho0 Ho1 Hp0 Hp1]
  · isplitl [Hkept]; · iexact Hkept
    isplitl [Ho0 Ho1]
    · isplitl [Ho0] <;> iassumption
    isplitl [Hp0] <;> iassumption
  isplitl [Hg0 Hg1]
  · isplitl [Hg0] <;> iassumption
  iexact Hn3

theorem used_way (s : Fin 8) (b : Bool) (hb : way s = b) : used b 3 s = true := by
  subst hb; revert s; decide
theorem used_other (s : Fin 8) (b : Bool) (hb : way s = b) : used (!b) 3 s = false := by
  subst hb; revert s; decide

theorem both_ways (b : Bool) (P : Bool → sProp 𝕄) : both P ⊢ iprop(P b ∗ P (!b)) := by
  unfold both
  cases b
  · exact Entails.rfl
  · show iprop(P false ∗ P true) ⊢ iprop(P true ∗ P false)
    iintro ⟨H0, H1⟩
    isplitl [H1]
    · iexact H1
    iexact H0

theorem ring3_run (c : Dev nD) (b : Bool) (s : Fin 8) (hb : way s = b) (n : ℕ) (hn : 57 + s.val = n) {k : Line F} {Q : PUnit → sProp 𝕄} :
    iprop(Known m K ∗ Owe c n ∗ atHop2 m c s ∗ ((Owe c (n + 1) ∗ atHop3 m c b s) -∗ run c k Q))
      ⊢ run c (ring3 c b s k) Q := by
  subst hn
  unfold atHop2 atHop3 kept2 ring3
  iintro ⟨#HK, HO, ⟨Hkept, ⟨Hg0, Hg1⟩, Hn3⟩, Hk⟩
  iapply (awaitRelay_spec m K c false 2 s (57 + s.val) (by decide) rfl (by show 2 + (41 + 2 * s.val + 0) < _; omega))
  isplitr; · iexact HK
  isplitl [HO]; · iexact HO
  isplitl [Hg0]; · iexact Hg0
  iintro ⟨HO, Ho0, Hp0, Hr0⟩
  iapply (awaitRelay_spec m K c true 2 s (57 + s.val) (by decide) rfl (by show 2 + (41 + 2 * s.val + 1) < _; omega))
  isplitr; · iexact HK
  isplitl [HO]; · iexact HO
  isplitl [Hg1]; · iexact Hg1
  iintro ⟨HO, Ho1, Hp1, Hr1⟩
  ihave Hn := (both_ways b fun b => hopLast (F := F) c b s) $$ Hn3
  icases Hn with ⟨Hn, Hi⟩
  ihave Hr := (both_ways b fun b => done m c (got b (place c) 2) s) $$ [Hr0 Hr1]
  · isplitl [Hr0] <;> iassumption
  icases Hr with ⟨Hr, Hq⟩
  iapply (relay_spec m K c b 3 s (57 + s.val) (by decide) (used_way s b hb) rfl)
  isplitr; · iexact HK
  isplitl [HO]; · iexact HO
  isplitl [Hn]
  · iapply (show hopLast (F := F) c b s ⊢ hopFresh c b 3 s by unfold hopLast; rw [if_pos (used_way s b hb)]); iexact Hn
  isplitl [Hr]; · rw [src_three]; iexact Hr
  iintro ⟨HO, Hg⟩
  iapply Hk
  isplitl [HO]; · iexact HO
  isplitl [Hkept Ho0 Ho1 Hp0 Hp1 Hi Hq]
  · isplitl [Hkept]; · iexact Hkept
    isplitl [Ho0 Ho1]
    · isplitl [Ho0] <;> iassumption
    isplitl [Hp0 Hp1]
    · isplitl [Hp0] <;> iassumption
    isplitl [Hi]
    · iapply (show hopLast (F := F) c (!b) s ⊢ hopIdle c (!b) 3 s by unfold hopLast; rw [used_other s b hb]; exact Entails.rfl); iexact Hi
    iexact Hq
  iexact Hg

theorem last_run (c : Dev nD) (b : Bool) (s : Fin 8) (hb : way s = b) {k : Line F} {Q : PUnit → sProp 𝕄} :
    iprop(Known m K ∗ Owe c 65 ∗ atHop3 m c b s ∗ ((Owe c 65 ∗ atLast m c b s) -∗ run c k Q))
      ⊢ run c (awaitRelay c b 3 s k) Q := by
  unfold atHop3 atLast
  iintro ⟨#HK, HO, ⟨Hkept, Hg⟩, Hk⟩
  iapply (awaitRelay_spec m K c b 3 s 65 (by decide) (used_way s b hb)
    (by
      have h : lvl (.per s (.rcv b 3)) = 2 + (57 + s.val) := by
        unfold lvl
        rw [if_neg (fun h => Flag.noConfusion h), if_pos (show isDue (.per s (.rcv b 3)) = true from used_way s b hb)]
        rfl
      omega))
  isplitr; · iexact HK
  isplitl [HO]; · iexact HO
  isplitl [Hg]; · iexact Hg
  iintro ⟨HO, Ho, Hp, Hr⟩
  iapply Hk
  isplitl [HO]; · iexact HO
  isplitl [Hkept]; · iexact Hkept
  isplitl [Ho]; · iexact Ho
  isplitl [Hp] <;> iassumption

theorem settle_run (c : Dev nD) (s : Fin 8) {k : Line F} {Q : PUnit → sProp 𝕄} :
    iprop(Known m K ∗ Owe c 65 ∗ atLast m c (way s) s ∗ ((Owe c 65 ∗ atEnd m c s) -∗ run c k Q))
      ⊢ run c (settle c s k) Q := by
  unfold atLast kept2 kept1 kept0 kept atEnd settle
  iintro ⟨#HK, HO, ⟨⟨⟨⟨⟨Hz1, Hz2, Hpo, Hxr, Hf, Hc⟩, Ho0, ⟨Hp0, Hp1⟩⟩, Ho1, Hd1⟩, Ho2, Hd2, Hi, Hq⟩, Ho3, Hd3, Hr⟩, Hk⟩
  iapply (wait_per m K c s .st 65 rfl (Nat.succ_pos _) (ownPiece c s) rfl rfl (P := perPay m c s .st) (by exact Entails.rfl))
  isplitr; · iexact HK
  isplitl [HO]; · iexact HO
  isplitl [Hf]; · iexact Hf
  isplitl [Hc]; · iexact Hc
  iintro ⟨HO, Hz3, Hp⟩
  ihave Hp' := (show perPay m c s .st ⊢ iprop(done m c (place c) s ∗ holds c (slot pm s) storeShare (resV m c s)) from .rfl) $$ Hp
  icases Hp' with ⟨Hd0, Hps⟩
  iapply Hk
  isplitl [HO]; · iexact HO
  isplitl [Hz1 Hz2 Hz3 Ho0 Ho1 Ho2 Ho3 Hi]
  · isplitl [Hz1]; · iexact Hz1
    isplitl [Hz2]; · iexact Hz2
    isplitl [Hz3]; · iexact Hz3
    isplitl [Ho0]; · iexact Ho0
    isplitl [Ho1]; · iexact Ho1
    isplitl [Ho2]; · iexact Ho2
    isplitl [Ho3] <;> iassumption
  isplitl [Hpo Hxr Hps Hp0 Hp1]
  · isplitl [Hpo]; · iexact Hpo
    isplitl [Hxr]; · iexact Hxr
    unfold held
    iexists (resV m c s)
    iapply (owns_halves (c : Thread nD τ) (slot pm s) fullShare (resV m c s)).2
    isplitl [Hps]; · iexact Hps
    iapply (owns_halves (c : Thread nD τ) (slot pm s) fullShare.right (resV m c s)).2
    isplitl [Hp0]; · iexact Hp0
    iexact Hp1
  isplitl [Hd0]; · iexact Hd0
  isplitl [Hd1]; · iexact Hd1
  isplitl [Hd2]; · iexact Hd2
  isplitl [Hd3]; · iexact Hd3
  isplitl [Hq] <;> iassumption

/-! ## A stage for each chunk of a list -/

/-- Something of each member of a list. -/
def all (P : Fin 8 → sProp 𝕄) : List (Fin 8) → sProp 𝕄
  | [] => iprop(emp)
  | s :: l => iprop(P s ∗ all P l)

/-- A list that counts up from `i`. -/
def ups : ℕ → List (Fin 8) → Prop
  | _, [] => True
  | i, s :: l => s.val = i ∧ ups (i + 1) l

theorem each_run (c : Dev nD) (M : Fin 8 → Line F → Line F) (Γ : ℕ → sProp 𝕄) (P P' : Fin 8 → sProp 𝕄) (l : List (Fin 8))
    (hM : ∀ s ∈ l, ∀ (k : Line F) (Q : PUnit → sProp 𝕄),
      iprop(Known m K ∗ Γ s.val ∗ P s ∗ ((Γ (s.val + 1) ∗ P' s) -∗ run c k Q)) ⊢ run c (M s k) Q)
    (i : ℕ) (hi : ups i l) (k : Line F) (Q : PUnit → sProp 𝕄) :
    iprop(Known m K ∗ Γ i ∗ all P l ∗ ((Γ (i + l.length) ∗ all P' l) -∗ run c k Q)) ⊢ run c (each M l k) Q := by
  induction l generalizing i with
  | nil =>
    iintro ⟨-, HΓ, Hl, Hk⟩
    iapply Hk
    isplitl [HΓ]; · iexact HΓ
    iexact Hl
  | cons s l ih =>
    obtain ⟨rfl, hl⟩ := hi
    unfold all each
    iintro ⟨#HK, HΓ, ⟨Hs, Hl⟩, Hk⟩
    iapply (hM s (List.mem_cons_self) (each M l k) Q)
    isplitr; · iexact HK
    isplitl [HΓ]; · iexact HΓ
    isplitl [Hs]; · iexact Hs
    iintro ⟨HΓ, Hs⟩
    iapply (ih (fun t ht => hM t (List.mem_cons_of_mem s ht)) (s.val + 1) hl)
    isplitr; · iexact HK
    isplitl [HΓ]; · iexact HΓ
    isplitl [Hl]; · iexact Hl
    iintro ⟨HΓ, Hl⟩
    iapply Hk
    isplitl [HΓ]
    · rw [List.length_cons, Nat.add_comm l.length 1, ← Nat.add_assoc]; iexact HΓ
    isplitl [Hs] <;> iassumption

end Cert.KernelIdeal.Work
-- ==== Proof.Body.lean ====
module

public import proofs.«01_k».proof.Proof.Stages

@[expose] public section

set_option maxRecDepth 65536

noncomputable section

/-! # The whole body

The opening — fetches and the barrier — and then the stages in order. -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Flag → ℕ)

/-! ## The barrier -/

/-- What device `c` owes before it has signalled anybody. -/
def owed₂ (c : Dev nD) : CellTallies nD τ sig Unit := due c 0 + tallyAt (cell (nb true c) .bar) () 1
def owed₁ (c : Dev nD) : CellTallies nD τ sig Unit := owed₂ c + tallyAt (cell (nb false c) .bar) () 1
def owed₀ (c : Dev nD) : CellTallies nD τ sig Unit := owed₁ c + tallyAt (cell (oth c) .bar) () 1

/-- The place on device `c` itself that its neighbour's hop `h` of chunk `s` will be written to. -/
def spot (b : Bool) (c : Dev nD) (s : Fin 8) (h : Fin 4) : sProp 𝕄 :=
  if used b h s then held c (blk (got b (place c) h) s) else iprop(emp)

theorem room_nb (b : Bool) (h : Fin 4) (s : Fin 8) (c : Dev nD) : (room b h s (nb (!b) c) : sProp 𝕄) = spot b c s h := by
  unfold room spot
  rw [nb_nb, src_nb]

theorem barPay_oth (c : Dev nD) : (barPay (oth c) none : sProp 𝕄) = bigSep Finset.univ fun s : Fin 8 => held c (slot xr s) := by
  show (bigSep Finset.univ fun s : Fin 8 => held (oth (oth c)) (slot xr s)) = _
  rw [oth_oth]
theorem barPay_nb (b : Bool) (c : Dev nD) :
    (barPay (nb (!b) c) (some b) : sProp 𝕄) = bigSep Finset.univ fun sh : Fin 8 × Fin 4 => spot b c sh.1 sh.2 :=
  bigSep_congr fun sh _ => room_nb b sh.2 sh.1 c

/-- The first wait of a device, for all three of its partners. -/
theorem barPay_all (c : Dev nD) : (bigSep Finset.univ (barPay (F := F) c)) = iprop(barPay c none ∗ barPay c (some false) ∗ barPay c (some true)) :=
  bigSep_univ_eq_bigSepL [none, some false, some true] (by decide) (by decide) _

/-- A signal to a partner's barrier. -/
theorem signal_bar (c c' d : Dev nD) (hd : d = c') (p : Duty) (O₀ O : CellTallies nD τ sig Unit)
    (hO : O₀ = O + tallyAt (cell c' .bar) () 1) (W : Waits sig Unit) {n : ℤ} (hn : n = ((1 : ℕ) : ℤ)) {kont : PUnit → Line F} {Q : PUnit → sProp 𝕄} :
    iprop(Known m K ∗ owes (c : Thread nD τ) O₀ W ∗ dutyTok ER (cell c' .bar) 0 p ∗ barPay c' p
        ∗ (owes (c : Thread nD τ) O W -∗ run c (kont ⟨⟩) Q))
      ⊢ run c (.op (.semSignal (d, .tc) barSem n) kont) Q := by
  subst hd hn
  iintro ⟨#HK, HO, Ht, Hp, Hk⟩
  ihave #HI := (known_inv m K d .bar) $$ HK
  ihave #HR := (known_reached m K d .bar) $$ HK
  iapply (Rounds.wp_signal 𝒱₀ ER (sched m) (c : Thread nD τ) none (dst := (d : Thread nD τ)) (sem := barSem) (r := 0) (κ := K (d, .bar))
      (d := p) (by show p ∈ (sched m).duties (cell d .bar) 0; rw [duties_cell m d .bar]; exact Finset.mem_univ _) (amount_cell m d .bar p) () O hO) $$ [HO Ht Hp]
  · isplitr; · iexact HI
    isplitl [HO]; · iexact HO
    isplitl [Ht]; · iexact Ht
    isplitl [Hp]
    · iapply (show barPay d p ⊢ (sched m).payload ((d : Thread nD τ), .reg barSem) 0 p from Entails.of_eq (payload_cell m d .bar p).symm); iexact Hp
    iexact HR
  iexact Hk

/-- The wait for the three. -/
theorem wait_bar (c : Dev nD) {n : ℕ} (hn : n = 3) {kont : PUnit → Line F} {Q : PUnit → sProp 𝕄} :
    iprop(Known m K ∗ Owe c 0 ∗ fresh c .bar ∗ cred (tallyAt (cell c .bar) () 3)
        ∗ ((Owe c 0 ∗ over c .bar ∗ barPay c none ∗ barPay c (some false) ∗ barPay c (some true)) -∗ run c (kont ⟨⟩) Q))
      ⊢ run c (.op (.semWait barSem n) kont) Q := by
  subst hn
  unfold Owe
  iintro ⟨#HK, ⟨%W, HO⟩, Hat, Hc, Hk⟩
  ihave #HI := (known_inv m K c .bar) $$ HK
  ihave #HL := (known_lev m K) $$ HK
  iapply (Rounds.wp_wait_rest_token 𝒱₀ ER (sched m) (c : Thread nD τ) none (κ := K (c, .bar))
      (wpE_semWait_eq 𝒱₀ (c : Thread nD τ) none Set.univ) (Set.mem_univ _) ()
      (O := due c 0) (W := W) (R := 0) (m := 0) (T := ∅)
      (by rw [Nat.zero_add, show (.reg barSem : SemLoc sig) = loc .bar from rfl, expect_cell]; rfl)) $$ [HO Hat Hc]
  · isplitr; · iexact HI
    isplitl [Hc]; · iexact Hc
    isplitl [HO]; · iexact HO
    isplitr; · iapply (may_wait c .bar 0 (by decide)); iexact HL
    iexact Hat
  iintro ⟨HO, Hat, -, Hpay⟩
  imod (Rounds.cell_close ER (sched m) (Set.mem_univ (K (c, .bar))) (fun h => h) (R := 0 + 1) (duties_later m (cell c .bar))) $$ [Hat] with Hz
  · isplitr; · iexact HI
    iexact Hat
  ihave Hp := (show (bigSep ((sched m).duties ((c : Thread nD τ), .reg barSem) 0 \ ∅) fun d => (sched m).payload ((c : Thread nD τ), .reg barSem) 0 d)
      ⊢ iprop(barPay c none ∗ barPay c (some false) ∗ barPay c (some true)) from
    Entails.of_eq ((rest_cell m c .bar).trans (barPay_all c))) $$ Hpay
  icases Hp with ⟨H0, H1, H2⟩
  iapply Hk
  isplitl [HO]; · iexists _; iexact HO
  isplitl [Hz]; · iexact Hz
  isplitl [H0]; · iexact H0
  isplitl [H1] <;> iassumption

/-! ## The fetches -/

theorem fetch_copy (c : Dev nD) (i : Fin 3) {S : Memref sig .tc .hbm S2048x1024 .f32} (D : Memref sig .tc .vmem S2048x1024 .f32) {sem : SemLoc sig}
    (hsem : sem = loc (.fetch i)) {h₁ : S.view.WordExact} {h₂ : D.view.WordExact}
    {h₃ : DmaTarget.Typed (nD := nD) (τ := τ) (p := .tc) .hbm sem (.here D)}
    (q : PosShare TreeShare) (X : XBlock F) (hN : D.view.amount sem = fetchN) (hpay : holds c D fullShare X ⊢ fetchPay m c i)
    {kont : PUnit → Line F} {Q : PUnit → sProp 𝕄} :
    iprop(Known m K ∗ holds c S q X ∗ held c D ∗ toPay c (.fetch i) ∗ (coming c (.fetch i) -∗ run c (kont ⟨⟩) Q))
      ⊢ run c (.op (.enqueueDma S (.here D) sem h₁ h₂ h₃) kont) Q :=
  copy_flag m K c (.fetch i) (fun h => Flag.noConfusion h) rfl rfl rfl hsem q X hN
    (by iintro ⟨H, -⟩; iapply (show holds c D fullShare X ⊢ pay m c (.fetch i) none from hpay); iexact H)

theorem fetch_wait (c : Dev nD) (i : Fin 3) {S : Memref sig .tc .hbm S2048x1024 .f32}
    (D : Memref sig .tc .vmem S2048x1024 .f32) {sem : DmaSem sig}
    {hS : S.view.WordExact} {hD : D.view.WordExact} (hsem : SemLoc.dma sem = loc (.fetch i)) (hN : D.view.dmaCredit = fetchN)
    {P : sProp 𝕄} (hP : fetchPay m c i ⊢ P) {kont : PUnit → Line F} {Q : PUnit → sProp 𝕄} :
    iprop(Known m K ∗ Owe c 0 ∗ fresh c (.fetch i) ∗ coming c (.fetch i)
        ∗ ((Owe c 0 ∗ over c (.fetch i) ∗ P) -∗ run c (kont ⟨⟩) Q))
      ⊢ run c (.op (.waitDma2 sem S D hS hD) kont) Q := by
  iintro ⟨#HK, HO, Hf, Hc, Hk⟩
  iapply (wait_flag m K c (.fetch i) 0 (fun h => Flag.noConfusion h) rfl (Nat.succ_pos _) (w := .waitDma2 sem S D hS hD)
    (fun R => by rw [wpE_waitDma2_eq, hsem, hN]; rfl))
  isplitr; · iexact HK
  isplitl [HO]; · iexact HO
  isplitl [Hf]; · iexact Hf
  isplitl [Hc]; · iexact Hc
  iintro ⟨HO, Hz, Hp⟩
  iapply Hk
  isplitl [HO]; · iexact HO
  isplitl [Hz]; · iexact Hz
  iapply (show pay m c (.fetch i) none ⊢ P from hP)
  iexact Hp

/-- A fetch before it starts. -/
def toFetch (c : Dev nD) (i : Fin 3) : sProp 𝕄 := iprop(fresh c (.fetch i) ∗ toPay c (.fetch i))

/-- What a device has to give its partners. -/
def toGive (c : Dev nD) : sProp 𝕄 :=
  iprop((dutyTok ER (cell (oth c) .bar) 0 none ∗ (bigSep Finset.univ fun s : Fin 8 => held c (slot xr s)))
    ∗ both fun b => iprop(dutyTok ER (cell (nb (!b) c) .bar) 0 (some b) ∗ bigSep Finset.univ fun sh : Fin 8 × Fin 4 => spot b c sh.1 sh.2))

/-- What the opening takes. -/
def atOpening (c : Dev nD) : sProp 𝕄 :=
  iprop((∃ W, owes (c : Thread nD τ) (owed₀ c) W) ∗ toGive c ∗ (fresh c .bar ∗ cred (tallyAt (cell c .bar) () 3))
    ∗ (toFetch c 0 ∗ toFetch c 1 ∗ toFetch c 2) ∗ (held c xob ∗ held c xmb ∗ held c dyb)
    ∗ ((∃ q, holds c (xBlock0 c) q (xoV m c)) ∗ (∃ q, holds c (xBlock1 c) q (xmV m c)) ∗ (∃ q, holds c (dyBlock c) q (dyV m c))))

/-- What it leaves. -/
def atOpened (c : Dev nD) : sProp 𝕄 :=
  iprop((Owe c 0 ∗ Blocks m c) ∗ (over c .bar ∗ over c (.fetch 0) ∗ over c (.fetch 1) ∗ over c (.fetch 2))
    ∗ barPay c none ∗ barPay c (some false) ∗ barPay c (some true))

theorem opening_run (c : Dev nD) {k : Line F} {Q : PUnit → sProp 𝕄} :
    iprop(Known m K ∗ atOpening m c ∗ (atOpened m c -∗ run c k Q)) ⊢ run c (opening c k) Q := by
  unfold atOpening atOpened toGive toFetch both opening Blocks
  iintro ⟨#HK, ⟨⟨%W, HO⟩, ⟨⟨Ht0, Hg0⟩, ⟨Ht1, Hg1⟩, ⟨Ht2, Hg2⟩⟩, ⟨Hfb, Hcb⟩, ⟨⟨Hf0, Hp0⟩, ⟨Hf1, Hp1⟩, ⟨Hf2, Hp2⟩⟩, ⟨Ha, Hb, Hd⟩,
    ⟨%q0, Hs0⟩, ⟨%q1, Hs1⟩, ⟨%q2, Hs2⟩⟩, Hk⟩
  iapply (fetch_copy m K c 0 xob rfl q0 (xoV m c) rfl (by exact Entails.rfl))
  isplitr; · iexact HK
  isplitl [Hs0]; · iexact Hs0
  isplitl [Ha]; · iexact Ha
  isplitl [Hp0]; · iexact Hp0
  iintro Hc0
  iapply (fetch_copy m K c 1 xmb rfl q1 (xmV m c) rfl (by exact Entails.rfl))
  isplitr; · iexact HK
  isplitl [Hs1]; · iexact Hs1
  isplitl [Hb]; · iexact Hb
  isplitl [Hp1]; · iexact Hp1
  iintro Hc1
  iapply (signal_bar m K c (oth c) _ (dev1_eq c) none (owed₀ c) (owed₁ c) rfl W rfl)
  isplitr; · iexact HK
  isplitl [HO]; · iexact HO
  isplitl [Ht0]; · iexact Ht0
  isplitl [Hg0]; · rw [barPay_oth]; iexact Hg0
  iintro HO
  iapply (signal_bar m K c (nb false c) _ (dev2_eq c) (some true) (owed₁ c) (owed₂ c) rfl W rfl)
  isplitr; · iexact HK
  isplitl [HO]; · iexact HO
  isplitl [Ht2]; · iexact Ht2
  isplitl [Hg2]; · iapply (Entails.of_eq (barPay_nb true c).symm); iexact Hg2
  iintro HO
  iapply (signal_bar m K c (nb true c) _ (dev3_eq c) (some false) (owed₂ c) (due c 0) rfl W rfl)
  isplitr; · iexact HK
  isplitl [HO]; · iexact HO
  isplitl [Ht1]; · iexact Ht1
  isplitl [Hg1]; · iapply (Entails.of_eq (barPay_nb false c).symm); iexact Hg1
  iintro HO
  iapply (wait_bar m K c rfl)
  isplitr; · iexact HK
  isplitl [HO]; · unfold Owe; iexists W; iexact HO
  isplitl [Hfb]; · iexact Hfb
  isplitl [Hcb]; · iexact Hcb
  iintro ⟨HO, Hzb, Hb0, Hb1, Hb2⟩
  iapply (fetch_copy m K c 2 dyb rfl q2 (dyV m c) rfl (by exact Entails.rfl))
  isplitr; · iexact HK
  isplitl [Hs2]; · iexact Hs2
  isplitl [Hd]; · iexact Hd
  isplitl [Hp2]; · iexact Hp2
  iintro Hc2
  iapply (fetch_wait m K c 2 dyb rfl rfl (P := holds c dyb fullShare (dyV m c)) (by exact Entails.rfl))
  isplitr; · iexact HK
  isplitl [HO]; · iexact HO
  isplitl [Hf2]; · iexact Hf2
  isplitl [Hc2]; · iexact Hc2
  iintro ⟨HO, Hz2, Hd⟩
  iapply (fetch_wait m K c 0 xob rfl rfl (P := holds c xob fullShare (xoV m c)) (by exact Entails.rfl))
  isplitr; · iexact HK
  isplitl [HO]; · iexact HO
  isplitl [Hf0]; · iexact Hf0
  isplitl [Hc0]; · iexact Hc0
  iintro ⟨HO, Hz0, Ha⟩
  iapply (fetch_wait m K c 1 xmb rfl rfl (P := holds c xmb fullShare (xmV m c)) (by exact Entails.rfl))
  isplitr; · iexact HK
  isplitl [HO]; · iexact HO
  isplitl [Hf1]; · iexact Hf1
  isplitl [Hc1]; · iexact Hc1
  iintro ⟨HO, Hz1, Hb⟩
  iapply Hk
  isplitl [HO Ha Hb Hd]
  · isplitl [HO]; · iexact HO
    isplitl [Ha]; · iexact Ha
    isplitl [Hb] <;> iassumption
  isplitl [Hzb Hz0 Hz1 Hz2]
  · isplitl [Hzb]; · iexact Hzb
    isplitl [Hz0]; · iexact Hz0
    isplitl [Hz1] <;> iassumption
  isplitl [Hb0]; · iexact Hb0
  isplitl [Hb1] <;> iassumption

/-! ## All the chunks -/

theorem all_mono (P P' : Fin 8 → sProp 𝕄) (l : List (Fin 8)) (h : ∀ s ∈ l, P s ⊢ P' s) : all P l ⊢ all P' l := by
  induction l with
  | nil => exact Entails.rfl
  | cons s l ih =>
    unfold all
    iintro ⟨Hs, Hl⟩
    isplitl [Hs]
    · iapply (h s List.mem_cons_self); iexact Hs
    · iapply (ih fun t ht => h t (List.mem_cons_of_mem s ht)); iexact Hl

theorem all_join (P : Fin 8 → sProp 𝕄) (l l' : List (Fin 8)) : iprop(all P l ∗ all P l') ⊢ all P (l ++ l') := by
  induction l with
  | nil => iintro ⟨-, H⟩; iexact H
  | cons s l ih =>
    show iprop((P s ∗ all P l) ∗ all P l') ⊢ iprop(P s ∗ all P (l ++ l'))
    iintro ⟨⟨Hs, Hl⟩, Hl'⟩
    isplitl [Hs]; · iexact Hs
    iapply ih
    isplitl [Hl] <;> iassumption

theorem all_part (P : Fin 8 → sProp 𝕄) (l l' : List (Fin 8)) : all P (l ++ l') ⊢ iprop(all P l ∗ all P l') := by
  induction l with
  | nil =>
    iintro H
    isplitr
    · unfold all; iempintro
    iexact H
  | cons s l ih =>
    show iprop(P s ∗ all P (l ++ l')) ⊢ iprop((P s ∗ all P l) ∗ all P l')
    iintro ⟨Hs, Hl⟩
    ihave H := ih $$ Hl
    icases H with ⟨Hl, Hl'⟩
    isplitr [Hl']
    · isplitl [Hs] <;> iassumption
    iexact Hl'

/-- The chunks in order. -/
abbrev eight : List (Fin 8) := [0, 1, 2, 3, 4, 5, 6, 7]

theorem all_eight (P : Fin 8 → sProp 𝕄) : bigSep Finset.univ P = all P eight := by
  rw [bigSep_univ_eq_bigSepL eight (by decide) (by decide)]
  show iprop(P 0 ∗ P 1 ∗ P 2 ∗ P 3 ∗ P 4 ∗ P 5 ∗ P 6 ∗ P 7) = iprop(P 0 ∗ P 1 ∗ P 2 ∗ P 3 ∗ P 4 ∗ P 5 ∗ P 6 ∗ P 7 ∗ emp)
  rw [show iprop(P 7 ∗ emp) = P 7 from equiv_iff.mp Idealize.SL.BI.sep_emp]

/-- A list of chunks told by their successors. -/
theorem all_pred (P : Fin 8 → sProp 𝕄) : all (fun s => P (s - 1)) [1, 2, 3, 4, 5, 6, 7] ⊢ all P [0, 1, 2, 3, 4, 5, 6] :=
  Entails.of_eq (show iprop(P 0 ∗ P 1 ∗ P 2 ∗ P 3 ∗ P 4 ∗ P 5 ∗ P 6 ∗ emp) = _ from rfl)

theorem all_snoc (P : Fin 8 → sProp 𝕄) (l : List (Fin 8)) (s : Fin 8) : iprop(all P l ∗ P s) ⊢ all P (l ++ [s]) := by
  iintro ⟨Hl, Hs⟩
  iapply (all_join P l [s])
  isplitl [Hl]; · iexact Hl
  iapply (show iprop(P s ∗ emp) ⊢ all P [s] from .rfl)
  isplitl [Hs]; · iexact Hs
  iempintro

/-! ## The stages in order -/

/-- The first loop: each chunk computed, the one before it finished. -/
theorem pairs_run (c : Dev nD) (s : Fin 8) (hs : s ∈ ([1, 2, 3, 4, 5, 6, 7] : List (Fin 8))) (k : Line F) (Q : PUnit → sProp 𝕄) :
    iprop(Known m K ∗ ((Owe c (3 * s.val - 2) ∗ Blocks m c) ∗ atShip m c (Fin.ofNat 8 (s.val - 1))) ∗ atStart c s
        ∗ ((((Owe c (3 * (s.val + 1) - 2) ∗ Blocks m c) ∗ atShip m c (Fin.ofNat 8 (s.val + 1 - 1))) ∗ atHop0 c (s - 1)) -∗ run c k Q))
      ⊢ run c (compute c s (finish c (s - 1) k)) Q := by
  have h1 : Fin.ofNat 8 (s.val - 1) = s - 1 := by revert s; decide
  have h2 : Fin.ofNat 8 (s.val + 1 - 1) = s := by revert s; decide
  have h3 : 3 * (s - 1).val + 2 = 3 * s.val - 2 + 1 := by revert s; decide
  have h4 : 3 * (s.val + 1) - 2 = 3 * s.val - 2 + 1 + 2 := by revert s; decide
  rw [h1, h2, h4]
  iintro ⟨#HK, ⟨HO, Hp⟩, Hs, Hk⟩
  iapply (compute_run m K c s (3 * s.val - 2) rfl)
  isplitr; · iexact HK
  isplitl [HO]; · iexact HO
  isplitl [Hs]; · iexact Hs
  iintro ⟨⟨HO, HB⟩, Hs⟩
  iapply (finish_run m K c (s - 1) (3 * s.val - 2 + 1) h3)
  isplitr; · iexact HK
  isplitl [HO]; · iexact HO
  isplitl [Hp]; · iexact Hp
  iintro ⟨HO, Hp⟩
  iapply Hk
  isplitr [Hp]
  · isplitl [HO HB]
    · isplitl [HO] <;> iassumption
    iexact Hs
  iexact Hp

/-- Everything after the opening. -/
theorem rest_run (c : Dev nD) (Q : PUnit → sProp 𝕄) :
    iprop(Known m K ∗ (Owe c 0 ∗ Blocks m c) ∗ all (atStart c) eight
        ∗ ((Owe c 65 ∗ Blocks m c ∗ all (atEnd m c) eight) -∗ |={Set.univ}=> Q ⟨⟩))
      ⊢ run c (compute c 0 <|
          each (fun s k => compute c s (finish c (s - 1) k)) [1, 2, 3, 4, 5, 6, 7] <|
          finish c 7 <|
          each (ring1 c) eight <| each (ring2 c) eight <|
          each (ring3 c false) [0, 1, 2, 3] <| each (ring3 c true) [4, 5, 6, 7] <|
          each (awaitRelay c false 3) [0, 1, 2, 3] <| each (awaitRelay c true 3) [4, 5, 6, 7] <|
          each (settle c) eight (.ret ⟨⟩)) Q := by
  iintro ⟨#HK, HO, Hl, Hk⟩
  ihave Hl' := (show all (atStart (F := F) c) eight ⊢ iprop(atStart c 0 ∗ all (atStart c) [1, 2, 3, 4, 5, 6, 7]) from .rfl) $$ Hl
  icases Hl' with ⟨H0, Hl⟩
  iapply (compute_run m K c 0 0 rfl)
  isplitr; · iexact HK
  isplitl [HO]; · iexact HO
  isplitl [H0]; · iexact H0
  iintro ⟨HO, H0⟩
  iapply (each_run m K c _ (fun i => iprop((Owe c (3 * i - 2) ∗ Blocks m c) ∗ atShip m c (Fin.ofNat 8 (i - 1)))) (atStart c) (fun s => atHop0 c (s - 1))
    [1, 2, 3, 4, 5, 6, 7] (fun s hs k Q => pairs_run m K c s hs k Q) 1 ⟨rfl, rfl, rfl, rfl, rfl, rfl, rfl, trivial⟩)
  isplitr; · iexact HK
  isplitl [HO H0]
  · isplitl [HO]; · iexact HO
    iexact H0
  isplitl [Hl]; · iexact Hl
  iintro ⟨⟨HOB, H7⟩, Hl⟩
  ihave HOB' := (show iprop(Owe (F := F) c (3 * (1 + ([1, 2, 3, 4, 5, 6, 7] : List (Fin 8)).length) - 2) ∗ Blocks m c) ⊢ iprop(Owe c 23 ∗ Blocks m c) by
    show iprop(Owe (F := F) c 22 ∗ Blocks m c) ⊢ _
    unfold Owe; rw [due_skip]) $$ HOB
  icases HOB' with ⟨HO, HB⟩
  iapply (finish_run m K c 7 23 rfl)
  isplitr; · iexact HK
  isplitl [HO]; · iexact HO
  isplitl [H7]; · iexact H7
  iintro ⟨HO, H7⟩
  ihave Hl := (all_pred (atHop0 (F := F) c)) $$ Hl
  ihave Hl' := (all_snoc (atHop0 (F := F) c) [0, 1, 2, 3, 4, 5, 6] 7) $$ [Hl H7]
  · isplitl [Hl]
    · iexact Hl
    iexact H7
  iapply (each_run m K c _ (fun i => Owe c (25 + 2 * i)) (atHop0 c) (atHop1 m c) eight
    (fun s _ k Q => ring1_run m K c s _ rfl) 0 ⟨rfl, rfl, rfl, rfl, rfl, rfl, rfl, rfl, trivial⟩)
  isplitr; · iexact HK
  isplitl [HO]; · iexact HO
  isplitl [Hl']; · iexact Hl'
  iintro ⟨HO, Hl⟩
  iapply (each_run m K c _ (fun i => Owe c (41 + 2 * i)) (atHop1 m c) (atHop2 m c) eight
    (fun s _ k Q => ring2_run m K c s _ rfl) 0 ⟨rfl, rfl, rfl, rfl, rfl, rfl, rfl, rfl, trivial⟩)
  isplitr; · iexact HK
  isplitl [HO]; · iexact HO
  isplitl [Hl]; · iexact Hl
  iintro ⟨HO, Hl⟩
  ihave Hl' := (show all (atHop2 m c) eight ⊢ iprop(all (atHop2 m c) [0, 1, 2, 3] ∗ all (atHop2 m c) [4, 5, 6, 7]) from
    all_part (atHop2 m c) [0, 1, 2, 3] [4, 5, 6, 7]) $$ Hl
  icases Hl' with ⟨Hl, Hr⟩
  iapply (each_run m K c _ (fun i => Owe c (57 + i)) (atHop2 m c) (atHop3 m c false) [0, 1, 2, 3]
    (fun s hs k Q => ring3_run m K c false s (by revert s; decide) _ rfl) 0 ⟨rfl, rfl, rfl, rfl, trivial⟩)
  isplitr; · iexact HK
  isplitl [HO]; · iexact HO
  isplitl [Hl]; · iexact Hl
  iintro ⟨HO, Hl⟩
  iapply (each_run m K c _ (fun i => Owe c (57 + i)) (atHop2 m c) (atHop3 m c true) [4, 5, 6, 7]
    (fun s hs k Q => ring3_run m K c true s (by revert s; decide) _ rfl) 4 ⟨rfl, rfl, rfl, rfl, trivial⟩)
  isplitr; · iexact HK
  isplitl [HO]; · iexact HO
  isplitl [Hr]; · iexact Hr
  iintro ⟨HO, Hr⟩
  iapply (each_run m K c _ (fun _ => Owe c 65) (atHop3 m c false) (atLast m c false) [0, 1, 2, 3]
    (fun s hs k Q => last_run m K c false s (by revert s; decide)) 0 ⟨rfl, rfl, rfl, rfl, trivial⟩)
  isplitr; · iexact HK
  isplitl [HO]; · iexact HO
  isplitl [Hl]; · iexact Hl
  iintro ⟨HO, Hl⟩
  iapply (each_run m K c _ (fun _ => Owe c 65) (atHop3 m c true) (atLast m c true) [4, 5, 6, 7]
    (fun s hs k Q => last_run m K c true s (by revert s; decide)) 4 ⟨rfl, rfl, rfl, rfl, trivial⟩)
  isplitr; · iexact HK
  isplitl [HO]; · iexact HO
  isplitl [Hr]; · iexact Hr
  iintro ⟨HO, Hr⟩
  ihave Hl := (all_mono (atLast m c false) (fun s => atLast m c (way s) s) [0, 1, 2, 3] fun s hs => Entails.of_eq (by
    rw [show way s = false by revert s; decide])) $$ Hl
  ihave Hr := (all_mono (atLast m c true) (fun s => atLast m c (way s) s) [4, 5, 6, 7] fun s hs => Entails.of_eq (by
    rw [show way s = true by revert s; decide])) $$ Hr
  ihave Hl' := (all_join (fun s => atLast m c (way s) s) [0, 1, 2, 3] [4, 5, 6, 7]) $$ [Hl Hr]
  · isplitl [Hl]
    · iexact Hl
    iexact Hr
  iapply (each_run m K c _ (fun _ => Owe c 65) (fun s => atLast m c (way s) s) (atEnd m c) eight
    (fun s hs k Q => settle_run m K c s) 0 ⟨rfl, rfl, rfl, rfl, rfl, rfl, rfl, rfl, trivial⟩)
  isplitr; · iexact HK
  isplitl [HO]; · iexact HO
  isplitl [Hl']; · iexact Hl'
  iintro ⟨HO, Hl⟩
  iapply (show iprop(|={Set.univ}=> Q ⟨⟩) ⊢ run c (.ret ⟨⟩) Q from .rfl)
  iapply Hk
  isplitl [HO]; · iexact HO
  isplitl [HB] <;> iassumption

end Cert.KernelIdeal.Work
-- ==== Proof.Buffers.lean ====
module

public import proofs.«01_k».proof.Proof.Body

@[expose] public section

set_option maxRecDepth 65536

noncomputable section

/-! # Buffers in parts

The arrays of chunks are held slot by slot, the result chunk by chunk. -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Flag → ℕ)

/-! ## Gluing -/

theorem holds_any (c : Dev nD) {sp : Space} {sh : Shape} {e : EltTy} (M : Memref sig .tc sp sh e) (X : sh.Idx → Elt F e) :
    (holds c M fullShare X : sProp 𝕄) ⊢ iprop(∃ Y, holds c M fullShare Y) := by
  iintro H
  iexists X
  iexact H

section Glue

variable {sh : Shape} {T : Type} [Fintype T] [DecidableEq T] (r : T → Rect sh)
  (hd : ∀ t t', t ≠ t' → Disjoint (r t).set (r t').set)
  (hcov : (Finset.univ : Finset T).biUnion (fun t => (r t).set) = Finset.univ)

include hcov in
omit [DecidableEq T] in
theorem part_of (i : sh.Idx) : ∃ t : T, ∃ j : (r t).shape.Idx, (r t).emb j = i := by
  classical
  have h : i ∈ (Finset.univ : Finset T).biUnion fun t => (r t).set := hcov.symm ▸ Finset.mem_univ i
  obtain ⟨t, -, ht⟩ := Finset.mem_biUnion.mp h
  rw [← Rect.map_emb_univ] at ht
  obtain ⟨j, -, hj⟩ := Finset.mem_map.mp ht
  exact ⟨t, j, hj⟩

/-- What reads the given values on each rectangle of a family that tiles the shape. -/
def glue {V : Type} (X : (t : T) → (r t).shape.Idx → V) (i : sh.Idx) : V :=
  X (part_of r hcov i).choose (part_of r hcov i).choose_spec.choose

include hd in
omit [DecidableEq T] in
theorem glue_emb {V : Type} (X : (t : T) → (r t).shape.Idx → V) (t : T) (j : (r t).shape.Idx) :
    glue r hcov X ((r t).emb j) = X t j := by
  have H : ∀ (t' : T) (j' : (r t').shape.Idx), (r t').emb j' = (r t).emb j → X t' j' = X t j := by
    intro t' j' h
    have ht : t' = t := by
      by_contra hne
      have hin : ∀ (u : T) (k : (r u).shape.Idx), (r u).emb k ∈ (r u).set := fun u k =>
        (r u).map_emb_univ ▸ Finset.mem_map_of_mem _ (Finset.mem_univ k)
      exact Finset.disjoint_left.mp (hd t' t hne) (hin t' j') (h ▸ hin t j)
    subst ht
    rw [(r t').emb.injective h]
  exact H _ _ (part_of r hcov ((r t).emb j)).choose_spec.choose_spec

variable {sp : Space} {e : EltTy} (c : Dev nD) (M : Memref sig .tc sp sh e) (hr : ∀ t a, (r t).stride a = 1)

include hd hcov in
theorem held_split : (held c M : sProp 𝕄) ⊢ bigSep Finset.univ fun t => held c (M.slice (r t) (hr t)) := by
  unfold held
  iintro ⟨%X, H⟩
  have h := owns_rects (Ix := Unit) (Name := ℕ) (U := UU) (Lvl := ℕ) (Val := Elt F) (c : Thread nD τ) M fullShare r hr hd hcov X
  have h' : (bigSep Finset.univ fun t => holds c (M.slice (r t) (hr t)) fullShare (fun j => X ((r t).emb j)) : sProp 𝕄)
      ⊢ bigSep Finset.univ fun t => iprop(∃ Y, holds c (M.slice (r t) (hr t)) fullShare Y) :=
    bigSep_mono fun t _ => holds_any c (M.slice (r t) (hr t)) fun j => X ((r t).emb j)
  iapply (h.trans h')
  iexact H

include hd in
theorem holds_join (X : (t : T) → (r t).shape.Idx → Elt F e) :
    (bigSep Finset.univ fun t => holds c (M.slice (r t) (hr t)) fullShare (X t) : sProp 𝕄) ⊢ holds c M fullShare (glue r hcov X) := by
  have h := owns_of_rects (Ix := Unit) (Name := ℕ) (U := UU) (Lvl := ℕ) (Val := Elt F) (c : Thread nD τ) M fullShare r hr hd hcov (glue r hcov X)
  have h' : (bigSep Finset.univ fun t => holds c (M.slice (r t) (hr t)) fullShare (X t) : sProp 𝕄)
      = bigSep Finset.univ fun t => holds c (M.slice (r t) (hr t)) fullShare fun j => glue r hcov X ((r t).emb j) :=
    bigSep_congr fun t _ => by rw [show (fun j => glue r hcov X ((r t).emb j)) = X t from funext fun j => glue_emb r hd hcov X t j]
  rw [h']
  exact h

include hd hcov in
theorem held_join : (bigSep Finset.univ fun t => held c (M.slice (r t) (hr t)) : sProp 𝕄) ⊢ held c M := by
  unfold held
  iintro H
  ihave H' := (BI.bigSep_exists_pi Finset.univ (fun (t : T) (X : (r t).shape.Idx → Elt F e) => (holds c (M.slice (r t) (hr t)) fullShare X : sProp 𝕄))) $$ H
  icases H' with ⟨%X, H⟩
  ihave H' := (holds_join r hd hcov c M hr X) $$ H
  iexists _
  iexact H'

end Glue

/-! ## Slots -/

theorem slots_apart (s t : Fin 8) (h : s ≠ t) : Disjoint (slotRect s).set (slotRect t).set :=
  Rect.unit_disjoint 0 (by
    show s.val + 1 ≤ t.val ∨ t.val + 1 ≤ s.val
    have : s.val ≠ t.val := fun e => h (Fin.ext e)
    omega)

theorem slots_cover : (Finset.univ : Finset (Fin 8)).biUnion (fun s => (slotRect s).set) = Finset.univ := by
  ext i
  simp only [Finset.mem_biUnion, Finset.mem_univ, true_and, iff_true]
  refine ⟨⟨(i 0).val, (i 0).isLt⟩, Rect.mem_set_unit.mpr fun a => ?_⟩
  have h := (i a).isLt
  fin_cases a
  · exact ⟨Nat.le_refl _, Nat.lt_succ_self _⟩
  · exact ⟨Nat.zero_le _, lt_of_lt_of_le h (Nat.le_add_left _ _)⟩
  · exact ⟨Nat.zero_le _, lt_of_lt_of_le h (Nat.le_add_left _ _)⟩

theorem slot_of_slice (c : Dev nD) (M : Memref sig .tc .vmem S8x1024x128 .f32) (s : Fin 8) :
    (held c (M.slice (slotRect s) (fun _ => rfl)) : sProp 𝕄) ⊢ held c (slot M s) := by
  unfold held
  iintro ⟨%X, H⟩
  ihave H' := (show holds c (M.slice (slotRect s) (fun _ => rfl)) fullShare X ⊢ iprop(∃ f, ⌜(M.access (slotRect s)).read (Elt F) f = X⌝
    ∗ ((M.access (slotRect s)).loc (c : Thread nD τ) ↦[(M.access (slotRect s)).set]{fullShare} f)) from .rfl) $$ H
  icases H' with ⟨%f, -, H⟩
  iexists ((slot M s).view.read (Elt F) f)
  iapply (owns_intro (c : Thread nD τ) (slot M s) fullShare f)
  rw [slot_set]
  iexact H

theorem slice_of_slot (c : Dev nD) (M : Memref sig .tc .vmem S8x1024x128 .f32) (s : Fin 8) :
    (held c (slot M s) : sProp 𝕄) ⊢ held c (M.slice (slotRect s) (fun _ => rfl)) := by
  unfold held
  iintro ⟨%X, H⟩
  ihave H' := (show holds c (slot M s) fullShare X ⊢ iprop(∃ f, ⌜(slot M s).view.read (Elt F) f = X⌝
    ∗ ((slot M s).view.loc (c : Thread nD τ) ↦[(slot M s).view.set]{fullShare} f)) from .rfl) $$ H
  icases H' with ⟨%f, -, H⟩
  iexists ((M.slice (slotRect s) (fun _ => rfl)).view.read (Elt F) f)
  iapply (owns_intro (c : Thread nD τ) (M.slice (slotRect s) (fun _ => rfl)) fullShare f)
  iapply (show ((slot M s).view.loc (c : Thread nD τ) ↦[(slot M s).view.set]{fullShare} f : sProp 𝕄)
    ⊢ ((M.slice (slotRect s) (fun _ => rfl)).view.loc (c : Thread nD τ) ↦[(M.slice (slotRect s) (fun _ => rfl)).view.set]{fullShare} f) by
      rw [slot_set])
  iexact H

theorem slots_split (c : Dev nD) (M : Memref sig .tc .vmem S8x1024x128 .f32) :
    (held c M : sProp 𝕄) ⊢ bigSep Finset.univ fun s => held c (slot M s) :=
  (held_split slotRect slots_apart slots_cover c M (fun _ _ => rfl)).trans (bigSep_mono fun s _ => slot_of_slice c M s)

theorem slots_join (c : Dev nD) (M : Memref sig .tc .vmem S8x1024x128 .f32) :
    (bigSep Finset.univ fun s => held c (slot M s) : sProp 𝕄) ⊢ held c M :=
  (bigSep_mono fun s _ => slice_of_slot c M s).trans (held_join slotRect slots_apart slots_cover c M (fun _ _ => rfl))

/-! ## The result -/

abbrev blkOf (t : Fin 8 × Fin 8) : Rect S1024x8192 := blkRect t.1 t.2

theorem blks_apart (t t' : Fin 8 × Fin 8) (h : t ≠ t') : Disjoint (blkOf t).set (blkOf t').set :=
  Rect.unit_disjoint 1 (by
    show (1024 * t.1.val + 128 * t.2.val) + 128 ≤ 1024 * t'.1.val + 128 * t'.2.val
      ∨ (1024 * t'.1.val + 128 * t'.2.val) + 128 ≤ 1024 * t.1.val + 128 * t.2.val
    have : ¬ (t.1.val = t'.1.val ∧ t.2.val = t'.2.val) := fun e => h (Prod.ext (Fin.ext e.1) (Fin.ext e.2))
    have h1 := t.2.isLt; have h2 := t'.2.isLt
    omega)

theorem blks_cover : (Finset.univ : Finset (Fin 8 × Fin 8)).biUnion (fun t => (blkOf t).set) = Finset.univ := by
  ext i
  simp only [Finset.mem_biUnion, Finset.mem_univ, true_and, iff_true]
  have h1 : (i 1).val < 8192 := (i 1).isLt
  refine ⟨(⟨(i 1).val / 1024, by omega⟩, ⟨(i 1).val % 1024 / 128, by omega⟩), Rect.mem_set_unit.mpr fun a => ?_⟩
  have h := (i a).isLt
  fin_cases a
  · exact ⟨Nat.zero_le _, lt_of_lt_of_le h (Nat.le_add_left _ _)⟩
  · show 1024 * ((i 1).val / 1024) + 128 * ((i 1).val % 1024 / 128) ≤ (i 1).val
      ∧ (i 1).val < 1024 * ((i 1).val / 1024) + 128 * ((i 1).val % 1024 / 128) + 128
    omega

/-- The whole result on device `c`. -/
def resOut (c : Dev nD) : S1024x8192.Idx → Elt F .f32 := glue blkOf blks_cover fun t => rowV m c t.1 t.2

theorem resOut_emb (c : Dev nD) (o s : Fin 8) (j : S1024x128.Idx) : resOut m c ((blkRect o s).emb j) = rowV m c o s j :=
  glue_emb blkOf blks_apart blks_cover (fun t => rowV m c t.1 t.2) (o, s) j

theorem blks_split (c : Dev nD) : (held c out : sProp 𝕄) ⊢ bigSep Finset.univ fun t : Fin 8 × Fin 8 => held c (blk t.1 t.2) :=
  held_split blkOf blks_apart blks_cover c out (fun _ _ => rfl)

theorem blks_join (c : Dev nD) : (bigSep Finset.univ fun t : Fin 8 × Fin 8 => done m c t.1 t.2 : sProp 𝕄) ⊢ holds c out fullShare (resOut m c) :=
  holds_join blkOf blks_apart blks_cover c out (fun _ _ => rfl) (fun t => rowV m c t.1 t.2)

end Cert.KernelIdeal.Work
-- ==== Proof.Deal.lean ====
module

public import proofs.«01_k».proof.Proof.Buffers

@[expose] public section

set_option maxRecDepth 65536

noncomputable section

/-! # Dealing a device its own

What a device holds is counted semaphore by semaphore and block by block; here it is sorted by chunk, before
the stages and after them. -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Flag → ℕ)

/-! ## Lists of semaphores -/

/-- The semaphores of a device other than the barrier's. -/
abbrev Own := Fin 3 ⊕ (Fin 8 × Per)
def ownFlag : Own → Flag
  | .inl i => .fetch i
  | .inr sk => .per sk.1 sk.2

def flagsE : Unit ⊕ Own ≃ Flag where
  toFun | .inl _ => .bar | .inr k => ownFlag k
  invFun | .bar => .inl () | .fetch i => .inr (.inl i) | .per s k => .inr (.inr (s, k))
  left_inv := by rintro (_ | _ | _) <;> rfl
  right_inv := by rintro (_ | _ | _) <;> rfl

theorem ownFlag_injective : Function.Injective ownFlag := fun a b h =>
  Sum.inr_injective (flagsE.injective (show flagsE (.inr a) = flagsE (.inr b) from h))

theorem flags_eq (Φ : Flag → sProp 𝕄) : bigSep Finset.univ Φ = iprop(Φ .bar ∗ bigSep Finset.univ fun k : Own => Φ (ownFlag k)) := by
  rw [bigSep_univ_equiv flagsE Φ, bigSep_univ_sum]
  show iprop((bigSep Finset.univ fun _ : Unit => Φ .bar) ∗ _) = _
  rw [Finset.univ_unique, bigSep_singleton]
  rfl

theorem own_eq (Φ : Flag → sProp 𝕄) : (bigSep Finset.univ fun k : Own => Φ (ownFlag k))
    = iprop((Φ (.fetch 0) ∗ Φ (.fetch 1) ∗ Φ (.fetch 2)) ∗ bigSep Finset.univ fun s : Fin 8 => bigSep Finset.univ fun k : Per => Φ (.per s k)) := by
  rw [bigSep_univ_sum, bigSep_univ_prod, bigSep_univ_eq_bigSepL [0, 1, 2] (by decide) (by decide)]
  rfl

theorem hops_eq (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem per_eq (Φ : Per → sProp 𝕄) : bigSep Finset.univ Φ
    = iprop(Φ .st ∗ Φ .xs ∗ Φ .xr ∗ Φ (.snd false 0) ∗ Φ (.rcv false 0) ∗ Φ (.snd true 0) ∗ Φ (.rcv true 0)
      ∗ Φ (.snd false 1) ∗ Φ (.rcv false 1) ∗ Φ (.snd true 1) ∗ Φ (.rcv true 1)
      ∗ Φ (.snd false 2) ∗ Φ (.rcv false 2) ∗ Φ (.snd true 2) ∗ Φ (.rcv true 2)
      ∗ Φ (.snd false 3) ∗ Φ (.rcv false 3) ∗ Φ (.snd true 3) ∗ Φ (.rcv true 3)) :=
  bigSep_univ_eq_bigSepL ([.st, .xs, .xr, .snd false 0, .rcv false 0, .snd true 0, .rcv true 0, .snd false 1, .rcv false 1, .snd true 1, .rcv true 1,
    .snd false 2, .rcv false 2, .snd true 2, .rcv true 2, .snd false 3, .rcv false 3, .snd true 3, .rcv true 3] : List Per) (by decide) (by decide) Φ

/-- Both ends of a hop. -/
def ends (Φ : Per → sProp 𝕄) (h : Fin 4) (b : Bool) : sProp 𝕄 := iprop(Φ (.snd b h) ∗ Φ (.rcv b h))

theorem per_split (Φ : Per → sProp 𝕄) : bigSep Finset.univ Φ
    ⊢ iprop(Φ .st ∗ Φ .xs ∗ Φ .xr ∗ both (ends Φ 0) ∗ both (ends Φ 1) ∗ both (ends Φ 2) ∗ both (ends Φ 3)) := by
  rw [per_eq]
  unfold both ends
  iintro ⟨H1, H2, H3, A1, A2, A3, A4, B1, B2, B3, B4, C1, C2, C3, C4, D1, D2, D3, D4⟩
  isplitl [H1]; · iexact H1
  isplitl [H2]; · iexact H2
  isplitl [H3]; · iexact H3
  isplitl [A1 A2 A3 A4]
  · isplitl [A1 A2]
    · isplitl [A1] <;> iassumption
    isplitl [A3] <;> iassumption
  isplitl [B1 B2 B3 B4]
  · isplitl [B1 B2]
    · isplitl [B1] <;> iassumption
    isplitl [B3] <;> iassumption
  isplitl [C1 C2 C3 C4]
  · isplitl [C1 C2]
    · isplitl [C1] <;> iassumption
    isplitl [C3] <;> iassumption
  isplitl [D1 D2]
  · isplitl [D1] <;> iassumption
  isplitl [D3] <;> iassumption

theorem per_join (Φ : Per → sProp 𝕄) :
    iprop(Φ .st ∗ Φ .xs ∗ Φ .xr ∗ both (ends Φ 0) ∗ both (ends Φ 1) ∗ both (ends Φ 2) ∗ both (ends Φ 3)) ⊢ bigSep Finset.univ Φ := by
  rw [per_eq]
  unfold both ends
  iintro ⟨H1, H2, H3, ⟨⟨A1, A2⟩, A3, A4⟩, ⟨⟨B1, B2⟩, B3, B4⟩, ⟨⟨C1, C2⟩, C3, C4⟩, ⟨D1, D2⟩, D3, D4⟩
  isplitl [H1]; · iexact H1
  isplitl [H2]; · iexact H2
  isplitl [H3]; · iexact H3
  isplitl [A1]; · iexact A1
  isplitl [A2]; · iexact A2
  isplitl [A3]; · iexact A3
  isplitl [A4]; · iexact A4
  isplitl [B1]; · iexact B1
  isplitl [B2]; · iexact B2
  isplitl [B3]; · iexact B3
  isplitl [B4]; · iexact B4
  isplitl [C1]; · iexact C1
  isplitl [C2]; · iexact C2
  isplitl [C3]; · iexact C3
  isplitl [C4]; · iexact C4
  isplitl [D1]; · iexact D1
  isplitl [D2]; · iexact D2
  isplitl [D3] <;> iassumption

/-! ## The pieces of a row -/

/-- The eight pieces told by where they come from. -/
theorem pieces_eq (Φ : Fin 8 → sProp 𝕄) (p : Fin 8) (b : Bool) : bigSep Finset.univ Φ
    = iprop(Φ p ∗ Φ (got false p 0) ∗ Φ (got true p 0) ∗ Φ (got false p 1) ∗ Φ (got true p 1) ∗ Φ (got b p 2) ∗ Φ (got (!b) p 2) ∗ Φ (got b p 3)) :=
  bigSep_univ_eq_bigSepL [p, got false p 0, got true p 0, got false p 1, got true p 1, got b p 2, got (!b) p 2, got b p 3]
    (by revert p b; decide) (by revert p b; decide) Φ

theorem used_early (b : Bool) (h : Fin 4) (s : Fin 8) (hh : h.val < 3) : used b h s = true := by
  unfold used; rw [decide_eq_true hh]; rfl

theorem spots_eq (c : Dev nD) (b : Bool) (s : Fin 8) : (bigSep Finset.univ fun h => spot (F := F) b c s h)
    = iprop(held c (blk (got b (place c) 0) s) ∗ held c (blk (got b (place c) 1) s) ∗ held c (blk (got b (place c) 2) s) ∗ spot b c s 3) := by
  rw [hops_eq]
  unfold spot
  rw [if_pos (used_early b 0 s (by decide)), if_pos (used_early b 1 s (by decide)), if_pos (used_early b 2 s (by decide))]

/-- Chunk `s`'s pieces: the device's own, and the places its neighbours will write. -/
theorem pieces_split (c : Dev nD) (s : Fin 8) : (bigSep Finset.univ fun o : Fin 8 => held (F := F) c (blk o s))
    ⊢ iprop(held c (blk (place c) s) ∗ both fun b => bigSep Finset.univ fun h => spot b c s h) := by
  unfold both
  dsimp only
  rw [pieces_eq _ (place c) (way s), spots_eq, spots_eq]
  obtain hb | hb : way s = false ∨ way s = true := by cases way s <;> simp
  · rw [hb, show spot (F := F) true c s 3 = iprop(emp) by unfold spot; exact if_neg (by rw [show used true 3 s = false from used_other s false hb]; decide),
      show spot (F := F) false c s 3 = held c (blk (got false (place c) 3) s) by unfold spot; exact if_pos (used_way s false hb)]
    iintro ⟨H, A0, B0, A1, B1, A2, B2, A3⟩
    isplitl [H]; · iexact H
    isplitl [A0 A1 A2 A3]
    · isplitl [A0]; · iexact A0
      isplitl [A1]; · iexact A1
      isplitl [A2] <;> iassumption
    isplitl [B0]; · iexact B0
    isplitl [B1]; · iexact B1
    isplitl [B2]; · iexact B2
    iempintro
  · rw [hb, show spot (F := F) false c s 3 = iprop(emp) by unfold spot; exact if_neg (by rw [show used false 3 s = false from used_other s true hb]; decide),
      show spot (F := F) true c s 3 = held c (blk (got true (place c) 3) s) by unfold spot; exact if_pos (used_way s true hb)]
    iintro ⟨H, A0, B0, A1, B1, B2, A2, B3⟩
    isplitl [H]; · iexact H
    isplitl [A0 A1 A2]
    · isplitl [A0]; · iexact A0
      isplitl [A1]; · iexact A1
      isplitl [A2]; · iexact A2
      iempintro
    isplitl [B0]; · iexact B0
    isplitl [B1]; · iexact B1
    isplitl [B2] <;> iassumption

/-- The finished pieces of chunk `s`. -/
theorem pieces_join (c : Dev nD) (s : Fin 8) :
    iprop(done m c (place c) s ∗ both (fun b => done m c (src b (place c) 1) s) ∗ both (fun b => done m c (src b (place c) 2) s)
      ∗ done m c (src (way s) (place c) 3) s ∗ done m c (got (!way s) (place c) 2) s ∗ done m c (got (way s) (place c) 3) s)
    ⊢ bigSep Finset.univ fun o : Fin 8 => done m c o s := by
  rw [pieces_eq _ (place c) (way s)]
  unfold both
  simp only [src_one, src_two, src_three]
  iintro ⟨H, ⟨A0, B0⟩, ⟨A1, B1⟩, A2, B2, A3⟩
  isplitl [H]; · iexact H
  isplitl [A0]; · iexact A0
  isplitl [B0]; · iexact B0
  isplitl [A1]; · iexact A1
  isplitl [B1]; · iexact B1
  isplitl [A2]; · iexact A2
  isplitl [B2] <;> iassumption

/-! ## A chunk at the start -/

/-- A semaphore's share of the protocol, as its device holds it: where it stands, the right to pay the one of that
    name the device pays, and what will be paid from elsewhere. -/
def tick (c : Dev nD) (k : Flag) : sProp 𝕄 := iprop(fresh c k ∗ toPay (dest c k) k ∗ if isDue k then coming c k else iprop(emp))

theorem tick_fetch (c : Dev nD) (i : Fin 3) : (tick c (.fetch i) : sProp 𝕄) ⊢ toFetch c i := by
  unfold tick toFetch
  iintro ⟨Hf, Hp, -⟩
  isplitl [Hf]; · iexact Hf
  iexact Hp

theorem tick_hop (c : Dev nD) (b : Bool) (h : Fin 4) (s : Fin 8) (hu : used b h s = true) :
    iprop(ends (fun k => tick (F := F) c (.per s k)) h b ∗ room b h s c) ⊢ hopFresh c b h s := by
  unfold ends tick room hopFresh
  dsimp only
  rw [if_pos hu, if_pos (show isDue (.per s (.rcv b h)) = true from hu)]
  iintro ⟨⟨⟨F1, P1, -⟩, F2, P2, C⟩, H⟩
  isplitl [F1]; · iexact F1
  isplitl [F2]; · iexact F2
  isplitl [C]; · iexact C
  isplitl [P1]; · iexact P1
  isplitl [P2]; · iexact P2
  iexact H

theorem tick_last (c : Dev nD) (b : Bool) (s : Fin 8) :
    iprop(ends (fun k => tick (F := F) c (.per s k)) 3 b ∗ room b 3 s c) ⊢ hopLast c b s := by
  unfold hopLast
  by_cases hu : used b 3 s = true
  · rw [if_pos hu]; exact tick_hop c b 3 s hu
  · rw [if_neg hu]
    unfold ends tick hopIdle
    iintro ⟨⟨⟨F1, -, -⟩, F2, -, -⟩, -⟩
    isplitl [F1] <;> iassumption

theorem both_map (P R P' : Bool → sProp 𝕄) (h : ∀ b, iprop(P b ∗ R b) ⊢ P' b) : iprop(both P ∗ both R) ⊢ both P' := by
  unfold both
  iintro ⟨⟨P0, P1⟩, R0, R1⟩
  isplitl [P0 R0]
  · iapply (h false); isplitl [P0] <;> iassumption
  · iapply (h true); isplitl [P1] <;> iassumption

/-- A chunk's own things and what its partners lend for it. -/
theorem chunk_start (c : Dev nD) (s : Fin 8) :
    iprop((bigSep Finset.univ fun k : Per => tick (F := F) c (.per s k)) ∗ held c (slot po s) ∗ held c (slot pm s) ∗ held c (blk (place c) s)
        ∗ held (oth c) (slot xr s) ∗ both fun b => bigSep Finset.univ fun h : Fin 4 => room b h s c)
      ⊢ atStart c s := by
  unfold atStart later
  iintro ⟨Hk, Hpo, Hpm, Hb, Hxr, Hr⟩
  ihave Hk := (per_split fun k : Per => tick (F := F) c (.per s k)) $$ Hk
  icases Hk with ⟨Hst, Hxs, Hx, H0, H1, H2, H3⟩
  ihave Hr := (show (both fun b => bigSep Finset.univ fun h : Fin 4 => room (F := F) b h s c)
    ⊢ iprop(both (fun b => room b 0 s c) ∗ both (fun b => room b 1 s c) ∗ both (fun b => room b 2 s c) ∗ both (fun b => room b 3 s c)) by
      unfold both
      dsimp only
      rw [hops_eq, hops_eq]
      iintro ⟨⟨A0, A1, A2, A3⟩, B0, B1, B2, B3⟩
      isplitl [A0 B0]
      · isplitl [A0] <;> iassumption
      isplitl [A1 B1]
      · isplitl [A1] <;> iassumption
      isplitl [A2 B2]
      · isplitl [A2] <;> iassumption
      isplitl [A3] <;> iassumption) $$ Hr
  icases Hr with ⟨R0, R1, R2, R3⟩
  ihave Hst := (show tick (F := F) c (.per s .st) ⊢ iprop(fresh c (.per s .st) ∗ toPay c (.per s .st) ∗ emp) from .rfl) $$ Hst
  icases Hst with ⟨Fst, Pst, -⟩
  ihave Hxs := (show tick (F := F) c (.per s .xs) ⊢ iprop(fresh c (.per s .xs) ∗ toPay c (.per s .xs) ∗ emp) from .rfl) $$ Hxs
  icases Hxs with ⟨Fxs, Pxs, -⟩
  ihave Hx := (show tick (F := F) c (.per s .xr) ⊢ iprop(fresh c (.per s .xr) ∗ toPay (oth c) (.per s .xr) ∗ coming c (.per s .xr)) from .rfl) $$ Hx
  icases Hx with ⟨Fxr, Pxr, Cxr⟩
  isplitl [Hpo]; · iexact Hpo
  isplitl [Hpm]; · iexact Hpm
  isplitl [Hxr]; · iexact Hxr
  isplitl [Pxs]; · iexact Pxs
  isplitl [Pxr]; · iexact Pxr
  isplitl [Fxs]; · iexact Fxs
  isplitl [Fxr]; · iexact Fxr
  isplitl [Cxr]; · iexact Cxr
  isplitl [Fst]; · iexact Fst
  isplitl [Pst]; · iexact Pst
  isplitl [Hb]; · iexact Hb
  isplitl [H0 R0]
  · iapply (both_map _ _ _ fun b => tick_hop c b 0 s (used_early b 0 s (by decide)))
    isplitl [H0] <;> iassumption
  isplitl [H1 R1]
  · iapply (both_map _ _ _ fun b => tick_hop c b 1 s (used_early b 1 s (by decide)))
    isplitl [H1] <;> iassumption
  isplitl [H2 R2]
  · iapply (both_map _ _ _ fun b => tick_hop c b 2 s (used_early b 2 s (by decide)))
    isplitl [H2] <;> iassumption
  · iapply (both_map _ _ _ fun b => tick_last c b s)
    isplitl [H3] <;> iassumption

/-! ## A chunk at the end -/

/-- A chunk all done: its semaphores at rest, its slots, its pieces of the result. -/
def atRest (c : Dev nD) (s : Fin 8) : sProp 𝕄 :=
  iprop((bigSep Finset.univ fun k : Per => over (F := F) c (.per s k)) ∗ (held c (slot po s) ∗ held c (slot xr s) ∗ held c (slot pm s))
    ∗ bigSep Finset.univ fun o : Fin 8 => done m c o s)

theorem idle_over (c : Dev nD) (b : Bool) (s : Fin 8) (hu : used b 3 s = false) :
    iprop(Known m K ∗ hopIdle c b 3 s) ⊢ |={Set.univ}=> hopOver c b 3 s := by
  unfold hopIdle hopOver
  iintro ⟨#HK, H1, H2⟩
  imod (close_unused m K c (.per s (.snd b 3)) (fun h => Flag.noConfusion h) hu) $$ [H1] with H1
  · isplitr; · iexact HK
    iexact H1
  imod (close_unused m K c (.per s (.rcv b 3)) (fun h => Flag.noConfusion h) hu) $$ [H2] with H2
  · isplitr; · iexact HK
    iexact H2
  imodintro
  isplitl [H1] <;> iassumption

theorem ways_both (b : Bool) (P : Bool → sProp 𝕄) : iprop(P b ∗ P (!b)) ⊢ both P := by
  unfold both
  cases b
  · exact Entails.rfl
  · show iprop(P true ∗ P false) ⊢ iprop(P false ∗ P true)
    iintro ⟨H, H'⟩
    isplitl [H'] <;> iassumption

theorem chunk_end (c : Dev nD) (s : Fin 8) : iprop(Known m K ∗ atEnd m c s) ⊢ |={Set.univ}=> atRest m c s := by
  unfold atEnd atRest
  iintro ⟨#HK, ⟨Hxs, Hxr, Hst, H0, H1, H2, H3, Hi⟩, Hs, Hd⟩
  imod (idle_over m K c (!way s) s (used_other s (way s) rfl)) $$ [Hi] with Hi
  · isplitr; · iexact HK
    iexact Hi
  ihave H3 := (ways_both (way s) fun b => hopOver (F := F) c b 3 s) $$ [H3 Hi]
  · isplitl [H3]; · iexact H3
    iexact Hi
  imodintro
  isplitl [Hxs Hxr Hst H0 H1 H2 H3]
  · iapply (per_join fun k : Per => over (F := F) c (.per s k))
    isplitl [Hst]; · iexact Hst
    isplitl [Hxs]; · iexact Hxs
    isplitl [Hxr]; · iexact Hxr
    isplitl [H0]; · iexact H0
    isplitl [H1]; · iexact H1
    isplitl [H2]; · iexact H2
    iexact H3
  isplitl [Hs]; · iexact Hs
  iapply (pieces_join m c s)
  iexact Hd

end Cert.KernelIdeal.Work
-- ==== Proof.Whole.lean ====
module

public import proofs.«01_k».proof.Proof.Deal

@[expose] public section

set_option maxRecDepth 65536

noncomputable section
/-! # The body, from one device's buffers to the finished result -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Flag → ℕ)

/-! ## Sorting by chunk -/

/-- The result's places: the device's own chunks, and those its neighbours will write. -/
theorem lay_out (c : Dev nD) : (held c out : sProp 𝕄)
    ⊢ iprop((bigSep Finset.univ fun s : Fin 8 => held c (blk (place c) s))
      ∗ both fun b => bigSep Finset.univ fun sh : Fin 8 × Fin 4 => spot b c sh.1 sh.2) := by
  have h1 : (bigSep Finset.univ fun t : Fin 8 × Fin 8 => held (F := F) c (blk t.1 t.2))
      = bigSep Finset.univ fun s : Fin 8 => bigSep Finset.univ fun o : Fin 8 => held c (blk o s) := by
    rw [bigSep_univ_prod]
    exact Pipeline.bigSep_univ_comm fun o s => held c (blk o s)
  have h2 : (bigSep Finset.univ fun s : Fin 8 => bigSep Finset.univ fun o : Fin 8 => held (F := F) c (blk o s))
      ⊢ bigSep Finset.univ fun s : Fin 8 => iprop(held c (blk (place c) s) ∗ both fun b => bigSep Finset.univ fun h => spot b c s h) :=
    bigSep_mono fun s _ => pieces_split c s
  have h3 : (bigSep Finset.univ fun s : Fin 8 => iprop(held (F := F) c (blk (place c) s) ∗ both fun b => bigSep Finset.univ fun h => spot b c s h))
      = iprop((bigSep Finset.univ fun s : Fin 8 => held c (blk (place c) s))
        ∗ both fun b => bigSep Finset.univ fun sh : Fin 8 × Fin 4 => spot b c sh.1 sh.2) := by
    unfold both
    dsimp only
    rw [bigSep_sep', bigSep_sep', bigSep_univ_prod, bigSep_univ_prod]
  rw [← h3]
  exact (blks_split c).trans ((Entails.of_eq h1).trans h2)

/-- The chunks at the start. -/
theorem chunks_start (c : Dev nD) :
    iprop((bigSep Finset.univ fun s : Fin 8 => bigSep Finset.univ fun k : Per => tick (F := F) c (.per s k))
        ∗ (bigSep Finset.univ fun s : Fin 8 => held c (slot po s)) ∗ (bigSep Finset.univ fun s : Fin 8 => held c (slot pm s))
        ∗ (bigSep Finset.univ fun s : Fin 8 => held c (blk (place c) s)) ∗ barPay c none ∗ barPay c (some false) ∗ barPay c (some true))
      ⊢ all (atStart c) eight := by
  rw [← all_eight]
  have h1 : (bigSep Finset.univ fun s : Fin 8 => iprop((bigSep Finset.univ fun k : Per => tick (F := F) c (.per s k)) ∗ held c (slot po s) ∗ held c (slot pm s)
        ∗ held c (blk (place c) s) ∗ held (oth c) (slot xr s) ∗ both fun b => bigSep Finset.univ fun h : Fin 4 => room b h s c))
      = iprop((bigSep Finset.univ fun s : Fin 8 => bigSep Finset.univ fun k : Per => tick (F := F) c (.per s k))
        ∗ (bigSep Finset.univ fun s : Fin 8 => held c (slot po s)) ∗ (bigSep Finset.univ fun s : Fin 8 => held c (slot pm s))
        ∗ (bigSep Finset.univ fun s : Fin 8 => held c (blk (place c) s)) ∗ barPay c none ∗ barPay c (some false) ∗ barPay c (some true)) := by
    unfold both barPay
    dsimp only
    rw [bigSep_sep', bigSep_sep', bigSep_sep', bigSep_sep', bigSep_sep', bigSep_sep', bigSep_univ_prod, bigSep_univ_prod]
  rw [← h1]
  exact bigSep_mono fun s _ => chunk_start c s

/-- The chunks at the end. -/
theorem chunks_end (c : Dev nD) : iprop(Known m K ∗ all (atEnd m c) eight) ⊢ |={Set.univ}=>
    iprop((bigSep Finset.univ fun s : Fin 8 => bigSep Finset.univ fun k : Per => over (F := F) c (.per s k))
      ∗ (held c po ∗ held c xr ∗ held c pm) ∗ holds c out fullShare (resOut m c)) := by
  rw [← all_eight]
  have h1 : iprop(Known m K ∗ bigSep Finset.univ (atEnd m c)) ⊢ bigSep Finset.univ fun s : Fin 8 => iprop(|={Set.univ}=> atRest m c s) :=
    (sep_mono_left (BI.bigSep_of_persistent Finset.univ (Known m K))).trans (by rw [← bigSep_sep']; exact bigSep_mono fun s _ => chunk_end m K c s)
  have h2 : (bigSep Finset.univ fun s : Fin 8 => atRest m c s)
      = iprop((bigSep Finset.univ fun s : Fin 8 => bigSep Finset.univ fun k : Per => over (F := F) c (.per s k))
        ∗ ((bigSep Finset.univ fun s : Fin 8 => held c (slot po s)) ∗ (bigSep Finset.univ fun s : Fin 8 => held c (slot xr s))
          ∗ (bigSep Finset.univ fun s : Fin 8 => held c (slot pm s)))
        ∗ bigSep Finset.univ fun s : Fin 8 => bigSep Finset.univ fun o : Fin 8 => done m c o s) := by
    unfold atRest
    rw [bigSep_sep', bigSep_sep', bigSep_sep', bigSep_sep']
  have h3 : (bigSep Finset.univ fun s : Fin 8 => bigSep Finset.univ fun o : Fin 8 => done m c o s)
      ⊢ bigSep Finset.univ fun t : Fin 8 × Fin 8 => done m c t.1 t.2 := by
    rw [bigSep_univ_prod]
    exact Entails.of_eq (Pipeline.bigSep_univ_comm fun s o => done m c o s)
  refine (h1.trans (bigSep_fupd _ _)).trans (BI.fupd_mono ?_)
  rw [h2]
  iintro ⟨Ho, ⟨H1, H2, H3⟩, Hd⟩
  isplitl [Ho]; · iexact Ho
  isplitl [H1 H2 H3]
  · isplitl [H1]; · iapply (slots_join c po); iexact H1
    isplitl [H2]; · iapply (slots_join c xr); iexact H2
    iapply (slots_join c pm); iexact H3
  iapply (blks_join m c)
  iapply h3
  iexact Hd

/-! ## The body -/

/-- What a device owes its partners' barriers. -/
def barToks (c : Dev nD) : sProp 𝕄 :=
  iprop(dutyTok ER (cell (oth c) .bar) 0 none ∗ both fun b => dutyTok ER (cell (nb (!b) c) .bar) 0 (some b))

/-- A device's own part of the protocol. -/
def ready (c : Dev nD) : sProp 𝕄 :=
  iprop(barToks c ∗ (fresh c .bar ∗ cred (tallyAt (cell c .bar) () 3)) ∗ bigSep Finset.univ fun k : Own => tick c (ownFlag k))

/-- What it reads of its arguments. -/
def inputs (c : Dev nD) : sProp 𝕄 :=
  iprop((∃ q, holds c (xBlock0 c) q (xoV m c)) ∗ (∃ q, holds c (xBlock1 c) q (xmV m c)) ∗ (∃ q, holds c (dyBlock c) q (dyV m c)))

/-- Its buffers of its own. -/
def scratch (c : Dev nD) : sProp 𝕄 := iprop(held c xob ∗ held c xmb ∗ held c dyb ∗ held c po ∗ held c pm ∗ held c xr)

/-- What a device enters the kernel with; -/
def start (c : Dev nD) : sProp 𝕄 := iprop((∃ K, Known m K) ∗ ready c ∗ inputs m c ∗ held c out)
def before (c : Dev nD) : sProp 𝕄 := iprop(start m c ∗ scratch c)
/-- and what it leaves it with. -/
def finishLine (c : Dev nD) : sProp 𝕄 := iprop(over c .bar ∗ holds c out fullShare (resOut m c))
def after (c : Dev nD) : sProp 𝕄 :=
  iprop(finishLine m c ∗ (bigSep Finset.univ fun k : Own => over c (ownFlag k)) ∗ scratch c)

theorem sound_body (c : Dev nD) (Q : PUnit → sProp 𝕄) :
    iprop(before m c ∗ (∃ W, owes (c : Thread nD τ) (owed₀ c) W) ∗ ((after m c ∗ Owe c 65) -∗ Q ⟨⟩)) ⊢ run c (line c) Q := by
  unfold before start ready inputs scratch barToks
  iintro ⟨⟨⟨⟨%K, #HK⟩, ⟨Hbt, Hbar, Htk⟩, Hin, Hout⟩, Ha, Hb, Hd, Hpo, Hpm, Hxr⟩, HO, Hk⟩
  ihave Htk := (Entails.of_eq (own_eq (tick (F := F) c))) $$ Htk
  icases Htk with ⟨⟨Hf0, Hf1, Hf2⟩, Htk⟩
  ihave Hout := (lay_out (F := F) c) $$ Hout
  icases Hout with ⟨Hown, Hsp⟩
  ihave Hpo := (slots_split (F := F) c po) $$ Hpo
  ihave Hpm := (slots_split (F := F) c pm) $$ Hpm
  ihave Hxr := (slots_split (F := F) c xr) $$ Hxr
  icases Hbt with ⟨Hb0, Hbb⟩
  iapply (show run c (opening c (compute c 0 <|
          each (fun s k => compute c s (finish c (s - 1) k)) [1, 2, 3, 4, 5, 6, 7] <|
          finish c 7 <|
          each (ring1 c) eight <| each (ring2 c) eight <|
          each (ring3 c false) [0, 1, 2, 3] <| each (ring3 c true) [4, 5, 6, 7] <|
          each (awaitRelay c false 3) [0, 1, 2, 3] <| each (awaitRelay c true 3) [4, 5, 6, 7] <|
          each (settle c) eight (.ret ⟨⟩))) Q ⊢ run c (line c) Q from .rfl)
  iapply (opening_run m K c)
  isplitr; · iexact HK
  isplitl [HO Hb0 Hbb Hxr Hsp Hbar Hf0 Hf1 Hf2 Ha Hb Hd Hin]
  · unfold atOpening toGive
    isplitl [HO]; · iexact HO
    isplitl [Hb0 Hbb Hxr Hsp]
    · isplitl [Hb0 Hxr]
      · isplitl [Hb0] <;> iassumption
      iapply (both_map _ _ _ fun b => Entails.rfl)
      isplitl [Hbb]; · iexact Hbb
      iexact Hsp
    isplitl [Hbar]; · iexact Hbar
    isplitl [Hf0 Hf1 Hf2]
    · isplitl [Hf0]; · iapply (tick_fetch c 0); iexact Hf0
      isplitl [Hf1]; · iapply (tick_fetch c 1); iexact Hf1
      iapply (tick_fetch c 2); iexact Hf2
    isplitl [Ha Hb Hd]
    · isplitl [Ha]; · iexact Ha
      isplitl [Hb] <;> iassumption
    iexact Hin
  unfold atOpened
  iintro ⟨HOB, ⟨Hzb, Hz0, Hz1, Hz2⟩, Hp⟩
  iapply (rest_run m K c Q)
  isplitr; · iexact HK
  isplitl [HOB]; · iexact HOB
  isplitl [Htk Hpo Hpm Hown Hp]
  · iapply (chunks_start c)
    isplitl [Htk]; · iexact Htk
    isplitl [Hpo]; · iexact Hpo
    isplitl [Hpm]; · iexact Hpm
    isplitl [Hown]; · iexact Hown
    iexact Hp
  iintro ⟨HO, HB, Hl⟩
  imod (chunks_end m K c) $$ [Hl] with Hl
  · isplitr; · iexact HK
    iexact Hl
  imodintro
  icases Hl with ⟨Ho, ⟨Hpo, Hxr, Hpm⟩, Hout⟩
  unfold Blocks
  icases HB with ⟨Ha, Hb, Hd⟩
  iapply Hk
  isplitr [HO]
  · unfold after finishLine scratch
    isplitl [Hzb Hout]
    · isplitl [Hzb] <;> iassumption
    isplitl [Ho Hz0 Hz1 Hz2]
    · iapply (Entails.of_eq (own_eq (over (F := F) c)).symm)
      isplitl [Hz0 Hz1 Hz2]
      · isplitl [Hz0]; · iexact Hz0
        isplitl [Hz1] <;> iassumption
      iexact Ho
    isplitl [Ha]; · unfold held; iexists _; iexact Ha
    isplitl [Hb]; · unfold held; iexists _; iexact Hb
    isplitl [Hd]; · unfold held; iexists _; iexact Hd
    isplitl [Hpo]; · iexact Hpo
    isplitl [Hpm] <;> iassumption
  iexact HO

end Cert.KernelIdeal.Work
-- ==== Proof.Launch.lean ====
module

public import proofs.«01_k».proof.Proof.Whole

@[expose] public section

set_option maxRecDepth 65536

noncomputable section
/-! # The launch's resources, dealt to the devices -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Flag → ℕ)

/-! ## Semaphores -/

/-- The kernel's own semaphores: all but the barrier's. -/
def osem (k : Own) : SemLoc sig := loc (ownFlag k)

theorem osem_injective : Function.Injective osem := fun _ _ h => ownFlag_injective (loc_injective h)

theorem cell_injective : Function.Injective (fun ck : Dev nD × Flag => cell ck.1 ck.2) := fun a b h =>
  Prod.ext (congrArg (fun g : GSem nD τ sig => g.1.1) h) (loc_injective (congrArg Prod.snd h))

theorem tok_injective : Function.Injective (fun x : Dev nD × (Flag × Duty) => ((cell x.1 x.2.1, 0, x.2.2) : GSem nD τ sig × ℕ × Duty)) := fun a b h => by
  have h1 : (a.1, a.2.1) = (b.1, b.2.1) := cell_injective (congrArg Prod.fst h)
  have h2 : a.1 = b.1 := (Prod.mk.inj h1).1
  have h3 : a.2.1 = b.2.1 := (Prod.mk.inj h1).2
  exact Prod.ext h2 (Prod.ext h3 (congrArg (fun y : GSem nD τ sig × ℕ × Duty => y.2.2) h))

def allCells : Finset (GSem nD τ sig) := Finset.univ.map ⟨_, cell_injective⟩
def allToks : Finset (GSem nD τ sig × ℕ × Duty) := Finset.univ.map ⟨_, tok_injective⟩

def u₀ : UU := (initOf (Pipeline.cells cfgs Gen.cellOf_inj) (Pipeline.launchToks cfgs Gen.cellOf_inj), initOf allCells allToks)

/-! ## What is minted, and to whom it goes -/

/-- What the launch mints for device `c`. -/
def minted (c : Dev nD) : sProp 𝕄 :=
  iprop((bigSep Finset.univ fun k : Flag => roundState ER (sched m) (cell c k) 0)
    ∗ (bigSep Finset.univ fun k : Flag => iprop(fresh c k ∗ reached ER (cell c k) 0))
    ∗ bigSep Finset.univ fun x : Flag × Duty => dutyTok ER (cell c x.1) 0 x.2)

theorem mint : BI.own (ER (initOf allCells allToks)) ⊢ (|==> bigSep Finset.univ (minted m) : sProp 𝕄) := by
  have hC (Φ : GSem nD τ sig → sProp 𝕄) : bigSep allCells Φ = bigSep Finset.univ fun c : Dev nD => bigSep Finset.univ fun k : Flag => Φ (cell c k) := by
    unfold allCells; rw [bigSep_map, bigSep_univ_prod]; rfl
  have hT : bigSep allToks (fun x => (dutyTok ER x.1 x.2.1 x.2.2 : sProp 𝕄))
      = bigSep Finset.univ fun c : Dev nD => bigSep Finset.univ fun x : Flag × Duty => dutyTok ER (cell c x.1) 0 x.2 := by
    unfold allToks; rw [bigSep_map, bigSep_univ_prod]; rfl
  iintro H
  imod (Rounds.fund ER (sched m) allCells allToks) $$ H with ⟨H1, H2, H3, H4⟩
  imodintro
  ihave H1 := (Entails.of_eq (hC fun g => roundState ER (sched m) g 0)) $$ H1
  ihave H2 := (Entails.of_eq (hC fun g => reached ER g 0)) $$ H2
  ihave H3 := (Entails.of_eq (hC fun g => atPos ER g 0 ∅ 0)) $$ H3
  ihave H4 := (Entails.of_eq hT) $$ H4
  unfold minted
  simp only [bigSep_sep']
  isplitl [H1]; · iexact H1
  isplitl [H2 H3]
  · isplitl [H3] <;> iassumption
  iexact H4

/-- Each payment is made by one device to each device: the payee, -/
def payee : Flag × Duty → Dev nD ≃ Dev nD
  | (.bar, none) => othE
  | (.bar, some b) => nbE (!b)
  | (.per _ .xr, _) => othE
  | (.per _ (.rcv b _), _) => nbE b
  | _ => Equiv.refl _

theorem payee_own (c : Dev nD) (k : Own) : payee (ownFlag k, none) c = dest c (ownFlag k) := by
  rcases k with i | ⟨s, k⟩
  · rfl
  · cases k <;> rfl

/-- so the tokens minted for the payees are those the payers need. -/
theorem tokens_dealt : (bigSep Finset.univ fun c : Dev nD => bigSep Finset.univ fun x : Flag × Duty => (dutyTok ER (cell c x.1) 0 x.2 : sProp 𝕄))
    = bigSep Finset.univ fun c : Dev nD => bigSep Finset.univ fun x : Flag × Duty => dutyTok ER (cell (payee x c) x.1) 0 x.2 := by
  rw [Pipeline.bigSep_univ_comm fun (c : Dev nD) (x : Flag × Duty) => (dutyTok ER (cell c x.1) 0 x.2 : sProp 𝕄),
    Pipeline.bigSep_univ_comm fun (c : Dev nD) (x : Flag × Duty) => (dutyTok ER (cell (payee x c) x.1) 0 x.2 : sProp 𝕄)]
  exact bigSep_congr fun x _ => bigSep_univ_equiv (payee x) fun c => dutyTok ER (cell c x.1) 0 x.2

/-- The tokens of device `c`, by what it does with them. -/
theorem tokens_of (c : Dev nD) : (bigSep Finset.univ fun x : Flag × Duty => (dutyTok ER (cell (payee x c) x.1) 0 x.2 : sProp 𝕄))
    ⊢ iprop(barToks c ∗ bigSep Finset.univ fun k : Own => toPay (dest c (ownFlag k)) (ownFlag k)) := by
  have h1 : (bigSep Finset.univ fun d : Duty => (dutyTok ER (cell (payee (.bar, d) c) .bar) 0 d : sProp 𝕄)) = barToks c :=
    bigSep_univ_eq_bigSepL [none, some false, some true] (by decide) (by decide) _
  have h2 (k : Own) : (bigSep Finset.univ fun d : Duty => (dutyTok ER (cell (payee (ownFlag k, d) c) (ownFlag k)) 0 d : sProp 𝕄))
      ⊢ toPay (dest c (ownFlag k)) (ownFlag k) := by
    have h : (bigSep Finset.univ fun d : Duty => (dutyTok ER (cell (payee (ownFlag k, d) c) (ownFlag k)) 0 d : sProp 𝕄))
        ⊢ dutyTok ER (cell (payee (ownFlag k, none) c) (ownFlag k)) 0 none := bigSep_elim (Finset.mem_univ none)
    rwa [payee_own] at h
  rw [bigSep_univ_prod, flags_eq fun k => bigSep Finset.univ fun d : Duty => (dutyTok ER (cell (payee (k, d) c) k) 0 d : sProp 𝕄), h1]
  exact sep_mono_right (bigSep_mono fun k _ => h2 k)

/-! ## The counters, and the protocols put up -/

theorem unscoped_eq (c : Dev nD) : (unscopedSems0 c : sProp 𝕄) = over c .bar := by
  unfold unscopedSems0; rw [bigSep_eq_bigSepL_of_eq [SemLoc.reg barSem] (by decide) (by decide)]; rfl

theorem counters (c : Dev nD) :
    iprop(Pipeline.ownSems0 (Ix := Unit) (Name := ℕ) (U := UU) (Lvl := ℕ) (Val := Elt F) (τ := τ) osem c ∗ unscopedSems0 c)
      ⊢ (bigSep Finset.univ fun k : Flag => over c k : sProp 𝕄) := by
  have e : (Pipeline.ownSems0 (Ix := Unit) (Name := ℕ) (U := UU) (Lvl := ℕ) (Val := Elt F) (τ := τ) osem c : sProp 𝕄)
      = bigSep Finset.univ fun k : Own => over c (ownFlag k) := rfl
  rw [e, unscoped_eq, flags_eq fun k => (over c k : sProp 𝕄)]
  iintro ⟨H, H'⟩
  isplitl [H']; · iexact H'
  iexact H

theorem put_up (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k : Flag => iprop(∃ κ : ℕ, cellInv ER (sched m) κ (cell c k)))
        ∗ (bigSep Finset.univ fun k : Flag => iprop(fresh c k ∗ reached ER (cell c k) 0))
        ∗ bigSep Finset.univ fun x : Flag × Duty => dutyTok ER (cell c x.1) 0 x.2) := by
  have h : iprop((bigSep Finset.univ fun k : Flag => over c k) ∗ bigSep Finset.univ fun k : Flag => roundState ER (sched m) (cell c k) 0)
      ⊢ (|={Set.univ}=> bigSep Finset.univ fun k : Flag => iprop(∃ κ : ℕ, cellInv ER (sched m) κ (cell c k)) : sProp 𝕄) := by
    rw [← bigSep_sep']
    exact (bigSep_mono fun k _ => (Rounds.body_intro ER (sched m) (cell c k)).trans inv_alloc).trans (bigSep_fupd _ _)
  unfold minted
  iintro ⟨H1, H2, H3, H4⟩
  imod h $$ [H1 H2 H3] with HI
  · isplitl [H1 H2]
    · iapply (counters c)
      isplitl [H1] <;> iassumption
    iexact H3
  imodintro
  isplitl [HI] <;> iassumption

/-- What everybody knows before the order of the semaphores is settled. -/
def Posted : sProp 𝕄 :=
  iprop((bigSep Finset.univ fun ck : Dev nD × Flag => cellInv ER (sched m) (K ck) (cell ck.1 ck.2))
    ∗ bigSep Finset.univ fun ck : Dev nD × Flag => reached ER (cell ck.1 ck.2) 0)

instance Posted_persistent : BI.Persistent (Posted m K) := by unfold Posted; infer_instance

/-- A device's own share after it. -/
def dealt (c : Dev nD) : sProp 𝕄 :=
  iprop((bigSep Finset.univ fun k : Flag => fresh c k) ∗ bigSep Finset.univ fun x : Flag × Duty => dutyTok ER (cell (payee x c) x.1) 0 x.2)

theorem deal :
    (bigSep Finset.univ fun c => iprop(Pipeline.ownSems0 (Ix := Unit) (Name := ℕ) (U := UU) (Lvl := ℕ) (Val := Elt F) (τ := τ) osem c ∗ unscopedSems0 c ∗ minted m c) : sProp 𝕄)
      ⊢ |={Set.univ}=> bigSep Finset.univ fun c => iprop(∃ K, Posted m K ∗ dealt c) := by
  have h1 : (bigSep Finset.univ fun c : Dev nD => bigSep Finset.univ fun k : Flag => (iprop(fresh c k ∗ reached ER (cell c k) 0) : sProp 𝕄))
      = iprop((bigSep Finset.univ fun c : Dev nD => bigSep Finset.univ fun k : Flag => fresh c k)
        ∗ bigSep Finset.univ fun ck : Dev nD × Flag => reached ER (cell ck.1 ck.2) 0) := by
    rw [bigSep_univ_prod fun ck : Dev nD × Flag => (reached ER (cell ck.1 ck.2) 0 : sProp 𝕄), ← bigSep_sep']
    exact bigSep_congr fun c _ => bigSep_sep' _ _ _
  have hx (c : Dev nD) (K : Dev nD × Flag → ℕ) : iprop(Posted m K ∗ dealt c) ⊢ (iprop(∃ K, Posted m K ∗ dealt c) : sProp 𝕄) := by
    iintro H
    iexists K
    iexact H
  have h2 (K : Dev nD × Flag → ℕ) : iprop(Posted m K ∗ bigSep Finset.univ (dealt (F := F))) ⊢ bigSep Finset.univ fun c => iprop(∃ K, Posted m K ∗ dealt c) :=
    (sep_mono_left (BI.bigSep_of_persistent Finset.univ (Posted m K))).trans (by rw [← bigSep_sep']; exact bigSep_mono fun c _ => hx c K)
  have h3 : (bigSep Finset.univ (dealt (F := F))) = iprop((bigSep Finset.univ fun c : Dev nD => bigSep Finset.univ fun k : Flag => fresh c k)
        ∗ bigSep Finset.univ fun c : Dev nD => bigSep Finset.univ fun x : Flag × Duty => dutyTok ER (cell (payee x c) x.1) 0 x.2) := by
    unfold dealt; rw [bigSep_sep']
  have h4 : (bigSep Finset.univ fun c : Dev nD => iprop((bigSep Finset.univ fun k : Flag => iprop(∃ κ : ℕ, cellInv ER (sched m) κ (cell c k)))
        ∗ (bigSep Finset.univ fun k : Flag => iprop(fresh c k ∗ reached ER (cell c k) 0))
        ∗ bigSep Finset.univ fun x : Flag × Duty => dutyTok ER (cell c x.1) 0 x.2))
      ⊢ (bigSep Finset.univ fun c => iprop(∃ K, Posted m K ∗ dealt c) : sProp 𝕄) := by
    rw [bigSep_sep', bigSep_sep', h1, tokens_dealt, ← bigSep_univ_prod (fun ck : Dev nD × Flag => iprop(∃ κ : ℕ, cellInv ER (sched m) κ (cell ck.1 ck.2)))]
    iintro ⟨HI, ⟨Hf, #HR⟩, Ht⟩
    ihave HI := (BI.bigSep_exists_pi Finset.univ (fun (ck : Dev nD × Flag) (κ : ℕ) => (cellInv ER (sched m) κ (cell ck.1 ck.2) : sProp 𝕄))) $$ HI
    icases HI with ⟨%K, #HI⟩
    iapply (h2 K)
    isplitr
    · unfold Posted
      isplitr; · iexact HI
      iexact HR
    iapply (Entails.of_eq h3.symm)
    isplitl [Hf] <;> iassumption
  exact ((bigSep_mono fun c _ => put_up m c).trans (bigSep_fupd _ _)).trans (BI.fupd_mono h4)

/-! ## The credit -/

/-- What everybody owes, summed by whom it is owed to. -/
theorem credits (c : Dev nD) : (Pipeline.launchCred owed₀ c : sProp 𝕄)
    ⊢ iprop(cred (tallyAt (cell c .bar) () 3) ∗ bigSep Finset.univ fun k : Own => if isDue (ownFlag k) then coming c (ownFlag k) else iprop(emp)) := by
  have hb (e : Dev nD ≃ Dev nD) : (Pipeline.launchCred (fun d => tallyAt (cell (e d) .bar) () 1) c : sProp 𝕄) ⊢ cred (tallyAt (cell c .bar) () 1) :=
    Pipeline.launchCred_tallyAt (loc .bar) e e.symm e.apply_symm_apply e.symm_apply_apply () 1 c
  have hd (k : Flag) (hk : isDue k = true) : (Pipeline.launchCred (fun d => tallyAt (cell (dest d k) k) () (amt k)) c : sProp 𝕄) ⊢ coming c k := by
    have h (e : Dev nD ≃ Dev nD) : (Pipeline.launchCred (fun d => tallyAt (cell (e d) k) () (amt k)) c : sProp 𝕄) ⊢ coming c k :=
      Pipeline.launchCred_tallyAt (loc k) e e.symm e.apply_symm_apply e.symm_apply_apply () (amt k) c
    have he : ∃ e : Dev nD ≃ Dev nD, (fun d => dest d k) = fun d => e d := by
      cases k with
      | bar => exact ⟨Equiv.refl _, rfl⟩
      | fetch i => exact ⟨Equiv.refl _, rfl⟩
      | per s k => cases k with
        | xr => exact ⟨othE, rfl⟩
        | rcv b h => exact ⟨nbE b, rfl⟩
        | _ => exact ⟨Equiv.refl _, rfl⟩
    obtain ⟨e, he⟩ := he
    have he' : (fun d => tallyAt (cell (dest d k) k) () (amt k)) = fun d => (tallyAt (cell (e d) k) () (amt k) : CellTallies nD τ sig Unit) :=
      funext fun d => by rw [show dest d k = e d from congrFun he d]
    rw [he']
    exact h e
  have h0 : (Pipeline.launchCred (fun d => due d 0) c : sProp 𝕄)
      ⊢ bigSep Finset.univ fun k : Own => if isDue (ownFlag k) then coming c (ownFlag k) else iprop(emp) := by
    unfold due
    rw [Pipeline.launchCred_sum]
    have h1 : (bigSep (Finset.univ.filter fun k : Flag => isDue k = true ∧ 0 ≤ turn k) fun k => (Pipeline.launchCred (fun d => tallyAt (cell (dest d k) k) () (amt k)) c : sProp 𝕄))
        ⊢ bigSep (Finset.univ.filter fun k : Flag => isDue k = true ∧ 0 ≤ turn k) fun k => coming c k :=
      bigSep_mono fun k hk => hd k (Finset.mem_filter.mp hk).2.1
    have h2 : (bigSep (Finset.univ.filter fun k : Flag => isDue k = true ∧ 0 ≤ turn k) fun k => (coming c k : sProp 𝕄))
        = bigSep Finset.univ fun k : Flag => if isDue k then coming c k else iprop(emp) := by
      rw [Finset.filter_congr (q := fun k : Flag => isDue k = true) fun k _ => ⟨fun h => h.1, fun h => ⟨h, Nat.zero_le _⟩⟩, bigSep_filter]; rfl
    rw [flags_eq] at h2
    refine h1.trans ((Entails.of_eq h2).trans ?_)
    iintro ⟨-, H⟩
    iexact H
  have h3 : iprop(cred (tallyAt (cell c .bar) () 1) ∗ cred (tallyAt (cell c .bar) () 1) ∗ cred (tallyAt (cell c .bar) () 1))
      ⊢ (cred (tallyAt (cell c .bar) () 3) : sProp 𝕄) := by
    have e : (tallyAt (cell c .bar) () 3 : CellTallies nD τ sig Unit)
        = tallyAt (cell c .bar) () 1 + (tallyAt (cell c .bar) () 1 + tallyAt (cell c .bar) () 1) := by
      unfold tallyAt; rw [← tallyOn_add, ← tallyOn_add, ← Finsupp.single_add, ← Finsupp.single_add]; rfl
    rw [e]
    exact (sep_mono_right (cred_add _ _).2).trans (cred_add _ _).2
  have e1 : (Pipeline.launchCred owed₀ c : sProp 𝕄) = iprop(Pipeline.launchCred owed₁ c ∗ Pipeline.launchCred (fun d => tallyAt (cell (othE d) .bar) () 1) c) :=
    Pipeline.launchCred_add owed₁ _ c
  have e2 : (Pipeline.launchCred owed₁ c : sProp 𝕄) = iprop(Pipeline.launchCred owed₂ c ∗ Pipeline.launchCred (fun d => tallyAt (cell (nbE false d) .bar) () 1) c) :=
    Pipeline.launchCred_add owed₂ _ c
  have e3 : (Pipeline.launchCred owed₂ c : sProp 𝕄) = iprop(Pipeline.launchCred (fun d => due d 0) c ∗ Pipeline.launchCred (fun d => tallyAt (cell (nbE true d) .bar) () 1) c) :=
    Pipeline.launchCred_add (fun d => due d 0) _ c
  rw [e1, e2, e3]
  iintro ⟨⟨⟨H0, H1⟩, H2⟩, H3⟩
  isplitl [H1 H2 H3]
  · iapply h3
    isplitl [H1]; · iapply (hb (nbE true)); iexact H1
    isplitl [H2]; · iapply (hb (nbE false)); iexact H2
    iapply (hb othE); iexact H3
  iapply h0
  iexact H0

/-- All of it together. -/
theorem ready_intro (c : Dev nD) : iprop(dealt c ∗ Pipeline.launchCred owed₀ c) ⊢ (ready c : sProp 𝕄) := by
  have h : (bigSep Finset.univ fun k : Own => (tick c (ownFlag k) : sProp 𝕄))
      = iprop((bigSep Finset.univ fun k : Own => fresh c (ownFlag k)) ∗ (bigSep Finset.univ fun k : Own => toPay (dest c (ownFlag k)) (ownFlag k))
        ∗ bigSep Finset.univ fun k : Own => if isDue (ownFlag k) then coming c (ownFlag k) else iprop(emp)) := by
    unfold tick
    rw [bigSep_sep', bigSep_sep']
  unfold dealt ready
  rw [flags_eq fun k => (fresh c k : sProp 𝕄), h]
  iintro ⟨⟨⟨Hb, Hf⟩, Ht⟩, Hc⟩
  ihave Ht := (tokens_of c) $$ Ht
  ihave Hc := (credits c) $$ Hc
  icases Ht with ⟨Hbt, Ht⟩
  icases Hc with ⟨Hbc, Hc⟩
  isplitl [Hbt]; · iexact Hbt
  isplitl [Hb Hbc]
  · isplitl [Hb] <;> iassumption
  isplitl [Hf]; · iexact Hf
  isplitl [Ht] <;> iassumption

end Cert.KernelIdeal.Work
-- ==== Proof.Run.lean ====
module

public import proofs.«01_k».proof.Proof.Launch
public import Idealize.ShloMosaic.Lib.Pipeline.CollectiveSegs

@[expose] public section

set_option maxRecDepth 65536

noncomputable section
/-! # The run of the program -/

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-! ## The kernel's one point -/

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => before m c
    | ⟨_ + 1, _⟩ => after m c
  q _ := fullShare
  owed t := match t with
    | ⟨0, _⟩ => owed₀ c
    | ⟨_ + 1, _⟩ => 0

theorem share_eq (c : Dev nD) (w : Fin cfg0.W) : (dats m 0 c).share w = fullShare := w.elim0

theorem body_obligation (c : Dev nD) : BodyObligation (dats m 0 c) (defs₀ (F := F)) 𝒱₀ () Set.univ := fun t => by
  rw [Gen.fin_N0 t]
  have e0 : ∀ Φ : Fin cfg0.W → sProp 𝕄, bigSep Finset.univ Φ = iprop(emp) := fun Φ => by
    rw [show (Finset.univ : Finset (Fin cfg0.W)) = ∅ from rfl, bigSep_empty]; rfl
  rw [e0, e0]
  show iprop(before m c ∗ owesWithin c (owed₀ c) ((dats m 0 c).bound () Gen.t0_0.castSucc) ∗ emp)
    ⊢ wp frame (wpE (defs₀ (F := F)) 𝒱₀ (c : Thread nD τ) none) Set.univ
      (cc0_body (F := F) (Memref.whole main_arg0) (Memref.isWhole_whole _) (Memref.whole main_arg1) (Memref.isWhole_whole _) (Memref.whole main_v1) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        cc0_scratch6 cc0_scratch7 cc0_scratch8 cc0_scratch9 cc0_scratch10 cc0_scratch11 cc0_scratch12 cc0_scratch13 cc0_scratch14 cc0_scratch15)
      (fun _ => iprop(after m c ∗ owesWithin c 0 ((dats m 0 c).bound () Gen.t0_0.succ) ∗ emp))
  rw [body_eq, wp_deviceId]
  unfold owesWithin
  iintro ⟨Hb, ⟨%W, -, HO⟩, -⟩
  iapply (sound_body m c _)
  isplitl [Hb]; · iexact Hb
  isplitl [HO]; · iexists W; iexact HO
  unfold Owe
  rw [due_end]
  iintro ⟨Ha, ⟨%W', HO⟩⟩
  isplitl [Ha]; · iexact Ha
  isplitl [HO]
  · iexists W'
    isplitr; · ipureintro; exact fun _ _ => Or.inl trivial
    iexact HO
  iempintro

/-! ## Its semaphores and buffers -/

theorem ownSemFacts : OwnSemFacts cfg0.spec osem where
  isScoped k := by revert k; decide
  inj := osem_injective
  disj _ w := w.elim0

/-- What stays outside while the kernel runs: half of each argument. -/
def keptBack (c : Dev nD) : sProp 𝕄 :=
  iprop((((c : Thread nD τ).loc main_arg0) ↦{(fullShare : PosShare TreeShare).left} m ((c : Thread nD τ).loc main_arg0))
    ∗ (((c : Thread nD τ).loc main_arg1) ↦{(fullShare : PosShare TreeShare).left} m ((c : Thread nD τ).loc main_arg1)))

theorem inputs_intro (c : Dev nD) :
    iprop((((c : Thread nD τ).loc main_arg0) ↦{fullShare} m ((c : Thread nD τ).loc main_arg0))
        ∗ (((c : Thread nD τ).loc main_arg1) ↦{fullShare} m ((c : Thread nD τ).loc main_arg1)))
      ⊢ iprop(inputs m c ∗ keptBack m c) := by
  have hx (M : Memref sig .tc .hbm S2048x1024 .f32) (q : PosShare TreeShare) :
      ((M.view.loc (c : Thread nD τ)) ↦{q} m (M.view.loc (c : Thread nD τ)) : sProp 𝕄) ⊢ ∃ q, holds c M q (M.view.read (Elt F) (m (M.view.loc (c : Thread nD τ)))) := by
    iintro H
    ihave H := (pointsTo_split_subset (Finset.subset_univ M.view.set)).1 $$ H
    icases H with ⟨H, -⟩
    iexists q
    iapply (owns_intro (c : Thread nD τ) M q)
    iexact H
  unfold inputs keptBack
  iintro ⟨H0, H1⟩
  ihave H0 := (pointsTo_share (PosShare.mem_left_op_right fullShare)).1 $$ H0
  icases H0 with ⟨K0, H0⟩
  ihave H0 := (pointsTo_share (PosShare.mem_left_op_right (fullShare : PosShare TreeShare).right)).1 $$ H0
  icases H0 with ⟨Ha, Hb⟩
  ihave H1 := (pointsTo_share (PosShare.mem_left_op_right fullShare)).1 $$ H1
  icases H1 with ⟨K1, Hd⟩
  isplitr [K0 K1]
  · isplitl [Ha]; · iapply (hx (xBlock0 c) _); iexact Ha
    isplitl [Hb]; · iapply (hx (xBlock1 c) _); iexact Hb
    iapply (hx (dyBlock c) _); iexact Hd
  isplitl [K0] <;> iassumption

theorem held_of (c : Dev nD) (b : Ref sig .tc) (f : Buf (Elt F) ((c : Thread nD τ).loc b)) :
    (((c : Thread nD τ).loc b) ↦{fullShare} f : sProp 𝕄) ⊢ held c (Memref.whole b) := by
  unfold held
  rw [← owns_whole]
  iintro H
  iexists f
  iexact H

theorem of_held (c : Dev nD) (b : Ref sig .tc) :
    held c (Memref.whole b) ⊢ (∃ f : Buf (Elt F) ((c : Thread nD τ).loc b), ((c : Thread nD τ).loc b) ↦{fullShare} f : sProp 𝕄) := by
  unfold held
  iintro ⟨%f, H⟩
  iexists f
  rw [← owns_whole]
  iexact H

theorem scratch_of (c : Dev nD) : (scopedRest cfg0.spec c : sProp 𝕄) ⊢ scratch c := by
  rw [Gen.scopedRest0_eq]
  unfold scratch
  iintro ⟨⟨%f0, H0⟩, ⟨%f1, H1⟩, ⟨%f2, H2⟩, ⟨%f3, H3⟩, ⟨%f4, H4⟩, ⟨%f5, H5⟩⟩
  isplitl [H0]; · iapply (held_of c cc0_scratch0 f0); iexact H0
  isplitl [H1]; · iapply (held_of c cc0_scratch1 f1); iexact H1
  isplitl [H2]; · iapply (held_of c cc0_scratch2 f2); iexact H2
  isplitl [H3]; · iapply (held_of c cc0_scratch3 f3); iexact H3
  isplitl [H4]; · iapply (held_of c cc0_scratch4 f4); iexact H4
  iapply (held_of c cc0_scratch5 f5); iexact H5

theorem of_scratch (c : Dev nD) : scratch c ⊢ (scopedRest cfg0.spec c : sProp 𝕄) := by
  rw [Gen.scopedRest0_eq]
  unfold scratch
  iintro ⟨H0, H1, H2, H3, H4, H5⟩
  isplitl [H0]; · iapply (of_held c cc0_scratch0); iexact H0
  isplitl [H1]; · iapply (of_held c cc0_scratch1); iexact H1
  isplitl [H2]; · iapply (of_held c cc0_scratch2); iexact H2
  isplitl [H3]; · iapply (of_held c cc0_scratch3); iexact H3
  isplitl [H4]; · iapply (of_held c cc0_scratch4); iexact H4
  iapply (of_held c cc0_scratch5); iexact H5

/-! ## In and out of the kernel -/

theorem start_intro (ρ : Dev nD → PrngReg) (c : Dev nD) :
    iprop(unscopedRestP Prefetch.none cfg0.spec c (fun b => m ((c : Thread nD τ).loc b)) ∗ levAts L lv
        ∗ launchCred owed₀ c ∗ prngReg c (ρ c) ∗ (∃ K, Posted m K ∗ dealt c))
      ⊢ |={Set.univ}=> iprop(start m c ∗ keptBack m c) := by
  rw [unscopedRestP_none, Gen.unscopedRest0_eq]
  iintro ⟨⟨H0, H1, H2⟩, #HL, Hc, -, ⟨%K, #HK, Hd⟩⟩
  ihave Hin := (inputs_intro m c) $$ [H0 H1]
  · isplitl [H0] <;> iassumption
  icases Hin with ⟨Hin, Hk⟩
  imodintro
  isplitr [Hk]
  · unfold start
    isplitr
    · iexists K
      unfold Known Posted
      icases HK with ⟨#HI, #HR⟩
      isplitr; · iexact HI
      isplitr; · iexact HR
      iexact HL
    isplitl [Hc Hd]
    · iapply (ready_intro c)
      isplitl [Hd] <;> iassumption
    isplitl [Hin]; · iexact Hin
    iapply (held_of c main_v1 _)
    iexact H2
  iexact Hk

theorem enter (c : Dev nD) :
    iprop(start m c ∗ prefHeld Prefetch.none c (fun _ => fullShare.right) (fun k => k.elim0) ∗ scopedRest cfg0.spec c) ⊢ (dats m 0 c).Φ 0 := by
  rw [show (dats m 0 c).Φ 0 = before m c from rfl]
  unfold before
  iintro ⟨Hs, -, Hr⟩
  isplitl [Hs]; · iexact Hs
  iapply (scratch_of c)
  iexact Hr

theorem leave (c : Dev nD) :
    (dats m 0 c).Φ (Fin.last cfg0.N) ⊢ iprop(finishLine m c ∗ ownSems0 osem c ∗ scopedRest cfg0.spec c) := by
  rw [show (dats m 0 c).Φ (Fin.last cfg0.N) = after m c from rfl]
  have e : (ownSems0 osem c : sProp 𝕄) = bigSep Finset.univ fun k : Own => over c (ownFlag k) := rfl
  rw [e]
  unfold after
  iintro ⟨Hf, Ho, Hs⟩
  isplitl [Hf]; · iexact Hf
  isplitl [Ho]; · iexact Ho
  iapply (of_scratch c)
  iexact Hs

/-- What the run leaves on device `c`. -/
def Left (c : Dev nD) (s : MemSt nD τ sig (Elt F)) : Prop :=
  s.mem ((c : Thread nD τ).loc main_v1) = resOut m c
    ∧ s.mem ((c : Thread nD τ).loc main_arg0) = m ((c : Thread nD τ).loc main_arg0)
    ∧ s.mem ((c : Thread nD τ).loc main_arg1) = m ((c : Thread nD τ).loc main_arg1)

theorem read_off (c : Dev nD) (s' : Phys nD τ sig (Elt F)) :
    iprop(finishLine m c ∗ keptBack m c ∗ SI s')
      ⊢ |={Set.univ}=> (iprop(⌜Left m c s'.mem ∧ ∀ sm : SemLoc sig, sm.isScoped .tc = false → s'.mem.sem ((c.tc : Thread nD τ), sm) = 0⌝ ∗ SI s') : sProp 𝕄) := by
  unfold finishLine keptBack
  rw [← unscoped_eq, show holds c out fullShare (resOut m c) = (((c : Thread nD τ).loc main_v1) ↦{fullShare} resOut m c : sProp 𝕄) from owns_whole _ _ _ _]
  iintro ⟨⟨Hz, Ho⟩, ⟨H0, H1⟩, HSI⟩
  icombine HSI Ho gives %h0
  icombine HSI H0 gives %h1
  icombine HSI H1 gives %h2
  imod (Pipeline.unscopedSems0_read (X := unscopedSems0 c) (c := c) fupd_intro s') $$ [Hz HSI] with ⟨%h3, HSI⟩
  · isplitl [Hz] <;> iassumption
  imodintro
  isplitr
  · ipureintro
    exact ⟨⟨Buf.eq_of_forall_mem_univ h0, Buf.eq_of_forall_mem_univ h1, Buf.eq_of_forall_mem_univ h2⟩, h3⟩
  iexact HSI

theorem waits (c : Dev nD) : (levAts L lv : sProp 𝕄) ⊢ cellsWaits cfgs (dats m) () 0 c :=
  cellsWaits_intro cfgs (dats m) () 0 c fun w _ _ => w.elim0

/-- Every weakly fair run of the program ends, with every device's result at the computed contents, its arguments as
    they were and every counter at zero. -/
theorem run_main (ρ : Dev nD → PrngReg) :
    θ_run defs (onTc (τ := τ) (main (F := F))) ⟨m, fun _ => 0, ρ⟩ (fun r => (∀ c, Left m c r.2) ∧ r.2.sem = fun _ => 0) :=
  θ_run_region_owing_glob_pf (fun p => (cfgs p).toPCfg) (fun p => (cfgs p).toPCfg_adm) (dats m) () Gen.cellOf_inj (0 : Fin 1)
    Gen.winFacts0.to₀ ownSemFacts (PreFacts.none _) EP defs₀ 𝒱₀ m ρ main
    (hmain := fun _ => rfl)
    (hbody := body_obligation m) (hne := fun w => w.elim0) (harr := Gen.arr_whole0) (hstage := Gen.stage_whole0) (hshare := share_eq m)
    (hdistinct := Gen.winFacts0.arr_inj)
    (O₀ := owed₀) (howed₀ := fun _ => rfl) (howedN := fun _ => rfl)
    (L := L) (lv := lv) (hL := L_of_ne) (hwaits := waits m)
    (G := minted m) (G' := fun c => iprop(∃ K, Posted m K ∗ dealt c)) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := deal m)
    (hA := fun _ w => w.elim0) (hpf := fun _ k => k.elim0)
    (X := start m) (Y := finishLine m) (Z := keptBack m)
    (hX := start_intro m ρ) (hin := enter m) (hout := leave m)
    (QY := fun c s => Left m c s ∧ ∀ sm : SemLoc sig, sm.isScoped .tc = false → s.sem ((c.tc : Thread nD τ), sm) = 0)
    (hY := read_off m)
    (hQ := fun _ h hs => ⟨fun c => (h c).2.2.1, sem_eq_zero hs fun c => (h c).2.2.2⟩)

end Cert.KernelIdeal.Work
-- ==== Proof.Value.lean ====
module

public import proofs.«01_k».proof.Proof.Run
public import proofs.«01_k».proof.Proof.Gen.ReferenceIdeal.Run
public import Idealize.ShloMosaic.Lib.ValueIdxCore
public import Idealize.ShloMosaic.Lib.Pointwise.Contract
public import Idealize.ShloMosaic.Lib.Pipeline.ValueKit.Geometry
public import Idealize.ShloMosaic.Lib.Pipeline.Value
public import Idealize.ShloMosaic.Lib.Layout
public import Idealize.ShloMosaic.PureOps.Ideal.Laws

@[expose] public section

set_option maxRecDepth 65536

noncomputable section
/-! # The result is the product of the whole arguments

Over the extended reals the result's entry at a row `a` of half `h` and a column `b` is two sums of 2048 products,
one made on each half of the mesh, and together they are the one sum of 4096 products of the reference. -/

namespace Cert.KernelIdeal.Work

open Idealize.ShloMosaic Idealize.ShloMosaic.TcCoe
open Facts₀ Facts

variable (m : (ℓ : Loc nD τ sig) → Buf (Elt Ideal) ℓ)

/-! ## What a device reads of its own arguments -/

theorem offXo (d : Dev nD) : k0_off1 d = ![0, 1024 * (1 - half d).val] := by
  revert d; decide +kernel
theorem offXm (d : Dev nD) : k0_off2 d = ![0, 1024 * (half d).val] := by
  revert d; decide +kernel
theorem offDy (d : Dev nD) : k0_off3 d = ![0, 1024 * (place d).val] := by
  revert d; decide +kernel

/-- An entry of a window of an array that starts at row 0 is the array's entry some columns along. -/
theorem window_at {R C w : ℕ} (f : (⟨2, ![R, C]⟩ : Shape).Idx → EReal) (off : Fin 2 → ℕ) (size : Fin 2 → ℕ) (q : ℕ) (ho : off = ![0, q])
    (inb : ∀ a, off a + size a ≤ (⟨2, ![R, C]⟩ : Shape).size a) (i : (Rect.unit (s := ⟨2, ![R, C]⟩) off size inb).shape.Idx)
    (r : Fin R) (k : Fin C) (hr : r.val = (i 0).val) (hk : k.val = q + (i 1).val) :
    f ((Rect.unit (s := ⟨2, ![R, C]⟩) off size inb).emb i) = f (ValueIdx.ix2 r k) := by
  subst ho
  refine congrArg f (funext fun a => Fin.ext ?_)
  rw [ValueKit.rect_emb_unit_val]
  match a with
  | ⟨0, _⟩ => exact (Nat.zero_add _).trans hr.symm
  | ⟨1, _⟩ => exact hk.symm

theorem xmV_at (d : Dev nD) (k : Fin 2048) (a : Fin 1024) (p : Fin 2048) (hp : p.val = 1024 * (half d).val + a.val) :
    xmV m d (ValueIdx.ix2 k a) = m ((d : Thread nD τ).loc main_arg0) (ValueIdx.ix2 k p) :=
  window_at (R := 2048) (C := 2048) (w := 1024) _ _ _ _ (offXm d) (k0_off2_inb d) (ValueIdx.ix2 k a) k p rfl hp

theorem xoV_at (d : Dev nD) (k : Fin 2048) (a : Fin 1024) (p : Fin 2048) (hp : p.val = 1024 * (1 - half d).val + a.val) :
    xoV m d (ValueIdx.ix2 k a) = m ((d : Thread nD τ).loc main_arg0) (ValueIdx.ix2 k p) :=
  window_at (R := 2048) (C := 2048) (w := 1024) _ _ _ _ (offXo d) (k0_off1_inb d) (ValueIdx.ix2 k a) k p rfl hp

theorem dyV_at (d : Dev nD) (k : Fin 2048) (b : Fin 1024) (p : Fin 8192) (hp : p.val = 1024 * (place d).val + b.val) :
    dyV m d (ValueIdx.ix2 k b) = m ((d : Thread nD τ).loc main_arg1) (ValueIdx.ix2 k p) :=
  window_at (R := 2048) (C := 8192) (w := 1024) _ _ _ _ (offDy d) (k0_off3_inb d) (ValueIdx.ix2 k b) k p rfl hp

theorem cols_at (s : Fin 8) (D : XBlock Ideal) (k : Fin 2048) (b : Fin 128) (p : Fin 1024) (hp : p.val = 128 * s.val + b.val) :
    colsOf s D (ValueIdx.ix2 k b) = D (ValueIdx.ix2 k p) :=
  window_at (R := 2048) (C := 1024) (w := 128) D _ _ _ rfl (cols_inb s) (ValueIdx.ix2 k b) k p rfl hp

/-! ## A chunk as sums -/

theorem chunk_at (A : Vec Ideal S2048x1024 .f32) (B : Vec Ideal S2048x128 .f32) (a : Fin 1024) (b : Fin 128) :
    chunkOf A B (ValueIdx.ix2 a b) = ∑ k : Fin 2048, (A (ValueIdx.ix2 k a) : EReal) * B (ValueIdx.ix2 k b) := by
  unfold chunkOf
  refine (Ideal.matmul_constant_zero_apply _ _ A B (ValueIdx.ix2 a b)).trans ?_
  refine (DotDims.sum_contr₁ dot_S2048x1024_S2048x128_S1024x128_0_0_1_1_n_n (a := 0) rfl (K := 2048) rfl _).trans ?_
  refine Finset.sum_congr rfl fun k _ => ?_
  refine congrArg₂ (fun x y : EReal => x * y) (congrArg A (funext fun i => Fin.ext ?_)) (congrArg B (funext fun i => Fin.ext ?_)) <;>
  match i with
  | ⟨0, _⟩ => rfl
  | ⟨1, _⟩ => rfl

/-- What device `d` holds of the two whole arguments. -/
def Holds (X : Cert.ReferenceIdeal.S4096x2048.Idx → EReal) (D : Cert.ReferenceIdeal.S4096x8192.Idx → EReal) : Prop :=
  ∀ (d : Dev nD) (k : Fin 2048) (k' : Fin 4096), k'.val = 2048 * (half d).val + k.val →
    (∀ p, m ((d : Thread nD τ).loc main_arg0) (ValueIdx.ix2 k p) = X (ValueIdx.ix2 k' p)) ∧ (∀ p, m ((d : Thread nD τ).loc main_arg1) (ValueIdx.ix2 k p) = D (ValueIdx.ix2 k' p))

/-- Row `k` of half `h` among all the rows. -/
def rowOf (h : Fin 2) (k : Fin 2048) : Fin 4096 := ⟨2048 * h.val + k.val, by omega⟩

theorem sum_rows (f : Fin 4096 → EReal) (h : Fin 2) : (∑ k, f (rowOf h k)) + (∑ k, f (rowOf (1 - h) k)) = ∑ k, f k := by
  have e : (∑ k, f (rowOf 0 k)) + (∑ k, f (rowOf 1 k)) = ∑ k, f k := by
    refine Eq.trans ?_ (Fin.sum_univ_add (a := 2048) (b := 2048) f).symm
    refine congrArg₂ (· + ·) (Finset.sum_congr rfl fun k _ => congrArg f (Fin.ext ?_)) (Finset.sum_congr rfl fun k _ => congrArg f (Fin.ext ?_))
    · show 2048 * 0 + k.val = k.val; omega
    · rfl
  match h with
  | 0 => exact e
  | 1 => exact (add_comm _ _).trans e

variable {m} {X : Cert.ReferenceIdeal.S4096x2048.Idx → EReal} {D : Cert.ReferenceIdeal.S4096x8192.Idx → EReal}

/-- A finished chunk's entry is the reference's sum. -/
theorem resV_at (H : Holds m X D) (d : Dev nD) (s : Fin 8) (a : Fin 1024) (b : Fin 128) (p : Fin 2048) (q : Fin 8192)
    (hp : p.val = 1024 * (half d).val + a.val) (hq : q.val = 1024 * (place d).val + 128 * s.val + b.val) :
    resV m d s (ValueIdx.ix2 a b) = ∑ k : Fin 4096, X (ValueIdx.ix2 k p) * D (ValueIdx.ix2 k q) := by
  have ho : half (oth d) = 1 - half d := half_devAt _ _
  have hpl : place (oth d) = place d := place_devAt _ _
  have hh : 1 - (1 - half d) = half d := by generalize half d = h; revert h; decide
  have hc : 128 * s.val + b.val < 1024 := by omega
  refine Eq.trans ?_ (sum_rows (fun k => X (ValueIdx.ix2 k p) * D (ValueIdx.ix2 k q)) (half d))
  show pmV m d s (ValueIdx.ix2 a b) + poV m (oth d) s (ValueIdx.ix2 a b) = _
  unfold pmV poV
  rw [chunk_at, chunk_at]
  refine congrArg₂ (· + ·) (Finset.sum_congr rfl fun k _ => ?_) (Finset.sum_congr rfl fun k _ => ?_)
  · rw [xmV_at m d k a p hp, cols_at s _ k b ⟨_, hc⟩ rfl, dyV_at m d k ⟨_, hc⟩ q (by rw [hq]; exact Nat.add_assoc _ _ _)]
    have := H d k (rowOf (half d) k) rfl
    rw [this.1, this.2]
  · rw [xoV_at m (oth d) k a p (by rw [ho, hh]; exact hp), cols_at s _ k b ⟨_, hc⟩ rfl,
      dyV_at m (oth d) k ⟨_, hc⟩ q (by rw [hq, hpl]; exact Nat.add_assoc _ _ _)]
    have := H (oth d) k (rowOf (1 - half d) k) (by rw [ho]; rfl)
    rw [this.1, this.2]

/-- The whole result's entry. -/
theorem resOut_at (H : Holds m X D) (c : Dev nD) (a : Fin 1024) (q : Fin 8192) (p : Fin 2048) (hp : p.val = 1024 * (half c).val + a.val) :
    resOut m c (ValueIdx.ix2 a q) = ∑ k : Fin 4096, X (ValueIdx.ix2 k p) * D (ValueIdx.ix2 k q) := by
  obtain ⟨o, ho⟩ : ∃ o : Fin 8, o.val = q.val / 1024 := ⟨⟨q.val / 1024, by omega⟩, rfl⟩
  obtain ⟨s, hs⟩ : ∃ s : Fin 8, s.val = q.val % 1024 / 128 := ⟨⟨q.val % 1024 / 128, by omega⟩, rfl⟩
  obtain ⟨b, hb⟩ : ∃ b : Fin 128, b.val = q.val % 128 := ⟨⟨q.val % 128, by omega⟩, rfl⟩
  have hq : q.val = 1024 * o.val + 128 * s.val + b.val := by omega
  have e : resOut m c (ValueIdx.ix2 a q) = rowV m c o s (ValueIdx.ix2 a b) :=
    (window_at (R := 1024) (C := 8192) (w := 128) (resOut m c) _ _ _ rfl (blk_inb o s) (ValueIdx.ix2 a b) a q rfl hq).symm.trans
      (resOut_emb m c o s (ValueIdx.ix2 a b))
  rw [e]
  unfold rowV
  exact resV_at H _ s a b p q (by rw [half_devAt]; exact hp) (by rw [place_devAt]; exact hq)

/-! ## The reference -/

/-- The reference's result. -/
def whole (X : Cert.ReferenceIdeal.S4096x2048.Idx → EReal) (D : Cert.ReferenceIdeal.S4096x8192.Idx → EReal) :
    Cert.ReferenceIdeal.S2048x8192.Idx → EReal :=
  Host.dotGeneral (F := Ideal) (φ₁ := .f32) (φ₂ := .f32) Cert.ReferenceIdeal.dot_S2048x4096_S4096x8192_S2048x8192_1_0_0_1_n_n none
    (transpose Cert.ReferenceIdeal.S2048x4096 [1, 0] X Cert.ReferenceIdeal.Gen.transposes_S4096x2048_S2048x4096_1_0) D

theorem whole_at (p : Fin 2048) (q : Fin 8192) : whole X D (ValueIdx.ix2 p q) = ∑ k : Fin 4096, X (ValueIdx.ix2 k p) * D (ValueIdx.ix2 k q) := by
  unfold whole
  simp only [Host.dotGeneral]
  refine (Ideal.dotGeneral_apply _ _ _ _ D (ValueIdx.ix2 p q)).trans ?_
  refine (DotDims.sum_contr₁ Cert.ReferenceIdeal.dot_S2048x4096_S4096x8192_S2048x8192_1_0_0_1_n_n (a := 1) rfl (K := 4096) rfl _).trans ?_
  refine Finset.sum_congr rfl fun k _ => ?_
  refine congrArg₂ (fun x y : EReal => x * y) (transpose_apply _ _ _ _ _ fun i => ?_) (congrArg D (funext fun i => Fin.ext ?_)) <;>
  match i with
  | ⟨0, _⟩ => rfl
  | ⟨1, _⟩ => rfl

/-- The device's result is its half of the rows of the reference's. -/
theorem resOut_whole (H : Holds m X D) (c : Dev nD) (i : S1024x8192.Idx) (j : Cert.ReferenceIdeal.S2048x8192.Idx)
    (h0 : (j 0).val = 1024 * (half c).val + (i 0).val) (h1 : (j 1).val = (i 1).val) : resOut m c i = whole X D j := by
  obtain ⟨a, q, rfl⟩ : ∃ a q, i = ValueIdx.ix2 a q := ⟨i 0, i 1, ValueIdx.eq_ix2 i⟩
  obtain ⟨p, q', rfl⟩ : ∃ p q', j = ValueIdx.ix2 p q' := ⟨j 0, j 1, ValueIdx.eq_ix2 j⟩
  obtain rfl : q' = q := Fin.ext h1
  rw [whole_at]
  exact resOut_at H c a q' p h0

end Cert.KernelIdeal.Work
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's two programs are one text, so the run proved for one of them is the run of the other. -/
theorem frame_kernel : Cert.quiescent_Kernel := fun m ρ _ =>
  (θ_run Cert.KernelIdeal.defs _ _).mono (fun _ h => ⟨fun c => (h.1 c).2, h.2⟩) (Cert.KernelIdeal.Work.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Work.run_main (F := Ideal) m ρ)

/-- The reference has no counters at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The blocks of rows that the devices hold: the first half of the mesh the first, the second half the second. -/
theorem part_of (c : Dev Cert.KernelIdeal.nD) :
    Layout.meshLin [2, 2, 4] c.val [0] = (Cert.KernelIdeal.Work.half c).val
    ∧ Layout.meshLin [2, 2, 4] c.val [] = 0 := by
  revert c; decide +kernel

/-- An entry of a device's part of an array. -/
theorem part_at {r C R : ℕ} (c : Dev Cert.KernelIdeal.nD) (v : (⟨2, ![R, C]⟩ : Shape).Idx → EReal) (h) (i : (⟨2, ![r, C]⟩ : Shape).Idx)
    (j : (⟨2, ![R, C]⟩ : Shape).Idx) (h0 : (j 0).val = r * (Cert.KernelIdeal.Work.half c).val + (i 0).val) (h1 : (j 1).val = (i 1).val) :
    Layout.blockN ⟨2, ![r, C]⟩ ⟨2, ![R, C]⟩ (Layout.meshBlock [2, 2, 4] ![[0], []] c) v h i = v j := by
  obtain ⟨p0, p1⟩ := part_of c
  refine congrArg v (funext fun a => Fin.ext ?_)
  match a with
  | ⟨0, _⟩ =>
    refine Eq.trans ?_ h0.symm
    show Layout.meshLin [2, 2, 4] c.val [0] * r + (i 0).val = _
    rw [p0, Nat.mul_comm]
  | ⟨1, _⟩ =>
    refine Eq.trans ?_ h1.symm
    show Layout.meshLin [2, 2, 4] c.val [] * C + (i 1).val = _
    rw [p1, Nat.zero_mul, Nat.zero_add]

theorem value : Cert.algebraic_KernelIdeal_ReferenceIdeal := by
  intro m g m' g' _ hargs
  have H : Cert.KernelIdeal.Work.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := fun d k k' hk =>
    ⟨fun p => (congrFun (hargs d).1 _).trans (part_at d _ _ _ _ hk rfl), fun p => (congrFun (hargs d).2 _).trans (part_at d _ _ _ _ hk rfl)⟩
  refine ⟨Cert.KernelIdeal.Work.whole _ _,
    (θ_run Cert.KernelIdeal.defs _ _).mono (fun r h c => ⟨(h.1 c).1.trans (funext fun i => ?_), (h.1 c).2⟩) (Cert.KernelIdeal.Work.run_main (F := Ideal) m g),
    (θ_run Cert.ReferenceIdeal.defs _ _).mono (fun r h => h 0) (Cert.ReferenceIdeal.Value.run (F := Ideal) m' g')⟩
  obtain ⟨j, h0, h1⟩ : ∃ j : Cert.ReferenceIdeal.S2048x8192.Idx, (j 0).val = 1024 * (Cert.KernelIdeal.Work.half c).val + (i 0).val ∧ (j 1).val = (i 1).val := by
    have hi : (i 0).val < 1024 := (i 0).isLt
    have hh := (Cert.KernelIdeal.Work.half c).isLt
    exact ⟨ValueIdx.ix2 ⟨1024 * (Cert.KernelIdeal.Work.half c).val + (i 0).val, by omega⟩ (i 1), rfl, rfl⟩
  exact (Cert.KernelIdeal.Work.resOut_whole H c i j h0 h1).trans (part_at c _ _ i j h0 h1).symm

theorem claim : Cert.Claim :=
  ⟨Cert.Kernel.Gen.facts, Cert.KernelIdeal.Gen.facts, Cert.ReferenceIdeal.Gen.facts, frame_kernel, frame_ideal, frame_reference, trivial, value⟩

end Cert.Proof

end
